-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_finite [hPre_nonneg_finite : Cert.Pre_nonneg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_finite [hPre_nonneg_finite : Cert.Pre_nonneg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg_finite [hKernelIdeal : Cert.KernelIdeal.Facts] [hPre_nonneg_finite : Cert.Pre_nonneg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg_finite [hReferenceIdeal : Cert.ReferenceIdeal.Facts] [hPre_nonneg_finite : Cert.Pre_nonneg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg_finite [hKernelIdeal : Cert.KernelIdeal.Facts] [hReferenceIdeal : Cert.ReferenceIdeal.Facts] [hPre_nonneg_finite : Cert.Pre_nonneg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg_finite : Cert.Pre_nonneg_finite.Facts),
    quiescent_Kernel (hKernel := hKernel)
    ∧ quiescent_KernelIdeal (hKernelIdeal := hKernelIdeal)
    ∧ quiescent_KernelIdeal_pre_nonneg_finite (hKernelIdeal := hKernelIdeal) (hPre_nonneg_finite := hPre_nonneg_finite)
    ∧ quiescent_ReferenceIdeal (hReferenceIdeal := hReferenceIdeal)
    ∧ quiescent_ReferenceIdeal_pre_nonneg_finite (hReferenceIdeal := hReferenceIdeal) (hPre_nonneg_finite := hPre_nonneg_finite)
    ∧ preserves_Kernel_KernelIdeal
    ∧ algebraic_KernelIdeal_ReferenceIdeal_pre_nonneg_finite (hKernelIdeal := hKernelIdeal) (hReferenceIdeal := hReferenceIdeal) (hPre_nonneg_finite := hPre_nonneg_finite)
-- ==== Pre_nonneg_finite.lean ====
abbrev S32x100000 : Shape := ⟨2, ![32, 100000]⟩
abbrev S_ : Shape := ⟨0, ![]⟩

class Facts : Prop where
  bcast_S_S32x100000 : S_.BroadcastsInDim S32x100000 (![] : Fin 0 → Fin S32x100000.rank)

variable [Facts]

def fn {F : FTy → Type} [FloatOps F] (main_arg0 : FVec F S32x100000 .f32) : IVec S32x100000 1 :=
  let main_cst : FVec F S_ .f32 := constant S_ .f32 0x00000000#32
  let main_v0 : FVec F S32x100000 .f32 := broadcastInDim S32x100000 ![] bcast_S_S32x100000 main_cst
  let main_v1 : IVec S32x100000 1 := cmpf .oge main_arg0 main_v0
  let main_cst_0 : FVec F S_ .f32 := constant S_ .f32 0x7F800000#32
  let main_v2 : FVec F S32x100000 .f32 := broadcastInDim S32x100000 ![] bcast_S_S32x100000 main_cst_0
  let main_v3 : IVec S32x100000 1 := cmpf .olt main_arg0 main_v2
  let main_v4 : IVec S32x100000 1 := andi main_v1 main_v3
  main_v4
-- ==== Kernel.lean ====
abbrev S32x100000 : Shape := ⟨2, ![32, 100000]⟩
abbrev S_ : Shape := ⟨0, ![]⟩
abbrev S32x100352 : Shape := ⟨2, ![32, 100352]⟩
abbrev S32x49x2048 : Shape := ⟨3, ![32, 49, 2048]⟩
abbrev S49x32x2048 : Shape := ⟨3, ![49, 32, 2048]⟩
abbrev S4096x1x32 : Shape := ⟨3, ![4096, 1, 32]⟩
abbrev S1x1x32 : Shape := ⟨3, ![1, 1, 32]⟩
abbrev S8x2048 : Shape := ⟨2, ![8, 2048]⟩
abbrev S8x1 : Shape := ⟨2, ![8, 1]⟩
abbrev S1x8x2048 : Shape := ⟨3, ![1, 8, 2048]⟩
abbrev S8 : Shape := ⟨1, ![8]⟩
abbrev S32 : Shape := ⟨1, ![32]⟩
abbrev S4096x32 : Shape := ⟨2, ![4096, 32]⟩

abbrev nBuf : Space → Nat
  | .hbm => 9
  | .vmem => 5
  | .smem => 0
  | _ => 0

abbrev bufTy : (tb : Table) → Fin (tcTables nBuf tb) → BufTy
  | .hbm, ⟨0, _⟩ => ⟨S32x100000, .f32⟩
  | .hbm, ⟨1, _⟩ => ⟨S_, .i32⟩
  | .hbm, ⟨2, _⟩ => ⟨S_, .f32⟩
  | .hbm, ⟨3, _⟩ => ⟨S32x100352, .f32⟩
  | .hbm, ⟨4, _⟩ => ⟨S32x49x2048, .f32⟩
  | .hbm, ⟨5, _⟩ => ⟨S49x32x2048, .f32⟩
  | .hbm, ⟨6, _⟩ => ⟨S49x32x2048, .f32⟩
  | .hbm, ⟨7, _⟩ => ⟨S4096x1x32, .i32⟩
  | .hbm, ⟨8, _⟩ => ⟨S4096x32, .i32⟩
  | .local _ .vmem, ⟨0, _⟩ => ⟨S49x32x2048, .f32⟩
  | .local _ .vmem, ⟨1, _⟩ => ⟨S49x32x2048, .f32⟩
  | .local _ .vmem, ⟨2, _⟩ => ⟨S49x32x2048, .f32⟩
  | .local _ .vmem, ⟨3, _⟩ => ⟨S1x1x32, .i32⟩
  | .local _ .vmem, ⟨4, _⟩ => ⟨S1x1x32, .i32⟩
  | _, _ => ⟨S32x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4

abbrev nD : Nat := 1
abbrev τ : Topo := Topo.v7x

variable {F : FTy → Type} [FloatOps F]

abbrev grid0 : Pipeline.Grid := .none

abbrev stage0_0 : Fin 1 → Memref sig .tc .vmem S49x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4096], ![false]⟩

@[reducible] def k1_t1_loop : Scf.Loop 32 :=
  let c0_i32_1 : BitVec 32 := 0#32
  let c49_i32 : BitVec 32 := 49#32
  let v21 : BitVec 32 := Scalar.addi c0_i32_1 c49_i32
  let c1_i32 : BitVec 32 := 1#32
  ⟨c0_i32_1, v21, c1_i32⟩
def k1_off1 (k1_t1 : Fin k1_t1_loop.trips) : Fin 3 → Nat :=
  let c0_i32_1 : BitVec 32 := 0#32
  let c1_i32 : BitVec 32 := 1#32
  let arg3 : BitVec 32 := Scf.iv c0_i32_1 c1_i32 k1_t1
  let v323 : Index := Scalar.indexCast arg3
  let c0_98 : Index := 0#32
  let c0_99 : Index := 0#32
  ![v323.toNat, 0, 0]
@[reducible] def k1_t2_loop : Scf.Loop 32 :=
  let c0_i32_11 : BitVec 32 := 0#32
  let c49_i32_12 : BitVec 32 := 49#32
  let v52 : BitVec 32 := Scalar.addi c0_i32_11 c49_i32_12
  let c1_i32_13 : BitVec 32 := 1#32
  ⟨c0_i32_11, v52, c1_i32_13⟩
def k1_off2 (k1_t2 : Fin k1_t2_loop.trips) : Fin 3 → Nat :=
  let c0_i32_11 : BitVec 32 := 0#32
  let c1_i32_13 : BitVec 32 := 1#32
  let arg3 : BitVec 32 := Scf.iv c0_i32_11 c1_i32_13 k1_t2
  let v323 : Index := Scalar.indexCast arg3
  let c8 : Index := 8#32
  let c0_98 : Index := 0#32
  ![v323.toNat, 8, 0]
@[reducible] def k1_t3_loop : Scf.Loop 32 :=
  let c0_i32_25 : BitVec 32 := 0#32
  let c49_i32_26 : BitVec 32 := 49#32
  let v83 : BitVec 32 := Scalar.addi c0_i32_25 c49_i32_26
  let c1_i32_27 : BitVec 32 := 1#32
  ⟨c0_i32_25, v83, c1_i32_27⟩
def k1_off3 (k1_t3 : Fin k1_t3_loop.trips) : Fin 3 → Nat :=
  let c0_i32_25 : BitVec 32 := 0#32
  let c1_i32_27 : BitVec 32 := 1#32
  let arg3 : BitVec 32 := Scf.iv c0_i32_25 c1_i32_27 k1_t3
  let v323 : Index := Scalar.indexCast arg3
  let c16 : Index := 16#32
  let c0_98 : Index := 0#32
  ![v323.toNat, 16, 0]
@[reducible] def k1_t4_loop : Scf.Loop 32 :=
  let c0_i32_39 : BitVec 32 := 0#32
  let c49_i32_40 : BitVec 32 := 49#32
  let v114 : BitVec 32 := Scalar.addi c0_i32_39 c49_i32_40
  let c1_i32_41 : BitVec 32 := 1#32
  ⟨c0_i32_39, v114, c1_i32_41⟩
def k1_off4 (k1_t4 : Fin k1_t4_loop.trips) : Fin 3 → Nat :=
  let c0_i32_39 : BitVec 32 := 0#32
  let c1_i32_41 : BitVec 32 := 1#32
  let arg3 : BitVec 32 := Scf.iv c0_i32_39 c1_i32_41 k1_t4
  let v323 : Index := Scalar.indexCast arg3
  let c24 : Index := 24#32
  let c0_98 : Index := 0#32
  ![v323.toNat, 24, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S49x32x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S32x100000 : Shape := ⟨2, ![32, 100000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S1x1x1 : Shape := ⟨3, ![1, 1, 1]⟩
abbrev S4096x32x100000 : Shape := ⟨3, ![4096, 32, 100000]⟩
abbrev S1x32x100000 : Shape := ⟨3, ![1, 32, 100000]⟩
abbrev S4096x32 : Shape := ⟨2, ![4096, 32]⟩

abbrev nBuf : Space → Nat
  | .hbm => 301
  | .vmem => 0
  | .smem => 0
  | _ => 0

abbrev hbmTy0_0 (i : Nat) : BufTy := match i % 128 with
  | 0 => ⟨S32x100000, .f32⟩
  | 1 => ⟨S_, .f32⟩
  | 2 => ⟨S32, .f32⟩
  | 3 => ⟨S32x1, .f32⟩
  | 4 => ⟨S32x100000, .f32⟩
  | 5 => ⟨S32x100000, .f32⟩
  | 6 => ⟨S32x100000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1x1, .f32⟩
  | 22 => ⟨S1x1x1, .f32⟩
  | 23 => ⟨S1, .i32⟩
  | 24 => ⟨S_, .i32⟩
  | 25 => ⟨S1, .i32⟩
  | 26 => ⟨S_, .i32⟩
  | 27 => ⟨S4096x32x100000, .i64⟩
  | 28 => ⟨S4096x32x100000, .i64⟩
  | 29 => ⟨S4096x32x100000, .i64⟩
  | 30 => ⟨S_, .i64⟩
  | 31 => ⟨S4096x32x100000, .i64⟩
  | 32 => ⟨S4096x32x100000, .i64⟩
  | 33 => ⟨S_, .i64⟩
  | 34 => ⟨S4096x32x100000, .i64⟩
  | 35 => ⟨S4096x32x100000, .i64⟩
  | 36 => ⟨S_, .i64⟩
  | 37 => ⟨S4096x32x100000, .i64⟩
  | 38 => ⟨S4096x32x100000, .i64⟩
  | 39 => ⟨S4096x32x100000, .i64⟩
  | 40 => ⟨S4096x32x100000, .i64⟩
  | 41 => ⟨S_, .i64⟩
  | 42 => ⟨S4096x32x100000, .i64⟩
  | 43 => ⟨S4096x32x100000, .i64⟩
  | 44 => ⟨S4096x32x100000, .i32⟩
  | 45 => ⟨S4096x32x100000, .i32⟩
  | 46 => ⟨S_, .i32⟩
  | 47 => ⟨S_, .i32⟩
  | 48 => ⟨S_, .i32⟩
  | 49 => ⟨S4096x32x100000, .i32⟩
  | 50 => ⟨S4096x32x100000, .i32⟩
  | 51 => ⟨S4096x32x100000, .i32⟩
  | 52 => ⟨S4096x32x100000, .i32⟩
  | 53 => ⟨S4096x32x100000, .i32⟩
  | 54 => ⟨S_, .i32⟩
  | 55 => ⟨S4096x32x100000, .i32⟩
  | 56 => ⟨S4096x32x100000, .i32⟩
  | 57 => ⟨S_, .i32⟩
  | 58 => ⟨S4096x32x100000, .i32⟩
  | 59 => ⟨S4096x32x100000, .i32⟩
  | 60 => ⟨S4096x32x100000, .i32⟩
  | 61 => ⟨S4096x32x100000, .i32⟩
  | 62 => ⟨S4096x32x100000, .i32⟩
  | 63 => ⟨S_, .i32⟩
  | 64 => ⟨S4096x32x100000, .i32⟩
  | 65 => ⟨S4096x32x100000, .i32⟩
  | 66 => ⟨S_, .i32⟩
  | 67 => ⟨S4096x32x100000, .i32⟩
  | 68 => ⟨S4096x32x100000, .i32⟩
  | 69 => ⟨S4096x32x100000, .i32⟩
  | 70 => ⟨S4096x32x100000, .i32⟩
  | 71 => ⟨S4096x32x100000, .i32⟩
  | 72 => ⟨S_, .i32⟩
  | 73 => ⟨S4096x32x100000, .i32⟩
  | 74 => ⟨S4096x32x100000, .i32⟩
  | 75 => ⟨S_, .i32⟩
  | 76 => ⟨S4096x32x100000, .i32⟩
  | 77 => ⟨S4096x32x100000, .i32⟩
  | 78 => ⟨S4096x32x100000, .i32⟩
  | 79 => ⟨S4096x32x100000, .i32⟩
  | 80 => ⟨S4096x32x100000, .i32⟩
  | 81 => ⟨S_, .i32⟩
  | 82 => ⟨S4096x32x100000, .i32⟩
  | 83 => ⟨S4096x32x100000, .i32⟩
  | 84 => ⟨S_, .i32⟩
  | 85 => ⟨S4096x32x100000, .i32⟩
  | 86 => ⟨S4096x32x100000, .i32⟩
  | 87 => ⟨S4096x32x100000, .i32⟩
  | 88 => ⟨S4096x32x100000, .i32⟩
  | 89 => ⟨S4096x32x100000, .i32⟩
  | 90 => ⟨S4096x32x100000, .i32⟩
  | 91 => ⟨S4096x32x100000, .i32⟩
  | 92 => ⟨S4096x32x100000, .i32⟩
  | 93 => ⟨S_, .i32⟩
  | 94 => ⟨S4096x32x100000, .i32⟩
  | 95 => ⟨S4096x32x100000, .i32⟩
  | 96 => ⟨S4096x32x100000, .i32⟩
  | 97 => ⟨S_, .i32⟩
  | 98 => ⟨S4096x32x100000, .i32⟩
  | 99 => ⟨S4096x32x100000, .i32⟩
  | 100 => ⟨S_, .i32⟩
  | 101 => ⟨S4096x32x100000, .i32⟩
  | 102 => ⟨S4096x32x100000, .i32⟩
  | 103 => ⟨S4096x32x100000, .i32⟩
  | 104 => ⟨S4096x32x100000, .i32⟩
  | 105 => ⟨S4096x32x100000, .i32⟩
  | 106 => ⟨S_, .i32⟩
  | 107 => ⟨S4096x32x100000, .i32⟩
  | 108 => ⟨S4096x32x100000, .i32⟩
  | 109 => ⟨S_, .i32⟩
  | 110 => ⟨S4096x32x100000, .i32⟩
  | 111 => ⟨S4096x32x100000, .i32⟩
  | 112 => ⟨S4096x32x100000, .i32⟩
  | 113 => ⟨S4096x32x100000, .i32⟩
  | 114 => ⟨S4096x32x100000, .i32⟩
  | 115 => ⟨S_, .i32⟩
  | 116 => ⟨S4096x32x100000, .i32⟩
  | 117 => ⟨S4096x32x100000, .i32⟩
  | 118 => ⟨S_, .i32⟩
  | 119 => ⟨S4096x32x100000, .i32⟩
  | 120 => ⟨S4096x32x100000, .i32⟩
  | 121 => ⟨S4096x32x100000, .i32⟩
  | 122 => ⟨S4096x32x100000, .i32⟩
  | 123 => ⟨S4096x32x100000, .i32⟩
  | 124 => ⟨S_, .i32⟩
  | 125 => ⟨S4096x32x100000, .i32⟩
  | 126 => ⟨S4096x32x100000, .i32⟩
  | 127 => ⟨S_, .i32⟩
  | _ => ⟨S32x100000, .f32⟩

abbrev hbmTy0_1 (i : Nat) : BufTy := match i % 128 with
  | 0 => ⟨S4096x32x100000, .i32⟩
  | 1 => ⟨S4096x32x100000, .i32⟩
  | 2 => ⟨S4096x32x100000, .i32⟩
  | 3 => ⟨S4096x32x100000, .i32⟩
  | 4 => ⟨S4096x32x100000, .i32⟩
  | 5 => ⟨S4096x32x100000, .i32⟩
  | 6 => ⟨S4096x32x100000, .i32⟩
  | 7 => ⟨S4096x32x100000, .i32⟩
  | 8 => ⟨S_, .i32⟩
  | 9 => ⟨S4096x32x100000, .i32⟩
  | 10 => ⟨S4096x32x100000, .i32⟩
  | 11 => ⟨S4096x32x100000, .i32⟩
  | 12 => ⟨S_, .i32⟩
  | 13 => ⟨S4096x32x100000, .i32⟩
  | 14 => ⟨S4096x32x100000, .i32⟩
  | 15 => ⟨S_, .i32⟩
  | 16 => ⟨S4096x32x100000, .i32⟩
  | 17 => ⟨S4096x32x100000, .i32⟩
  | 18 => ⟨S4096x32x100000, .i32⟩
  | 19 => ⟨S4096x32x100000, .i32⟩
  | 20 => ⟨S4096x32x100000, .i32⟩
  | 21 => ⟨S_, .i32⟩
  | 22 => ⟨S4096x32x100000, .i32⟩
  | 23 => ⟨S4096x32x100000, .i32⟩
  | 24 => ⟨S_, .i32⟩
  | 25 => ⟨S4096x32x100000, .i32⟩
  | 26 => ⟨S4096x32x100000, .i32⟩
  | 27 => ⟨S4096x32x100000, .i32⟩
  | 28 => ⟨S4096x32x100000, .i32⟩
  | 29 => ⟨S4096x32x100000, .i32⟩
  | 30 => ⟨S_, .i32⟩
  | 31 => ⟨S4096x32x100000, .i32⟩
  | 32 => ⟨S4096x32x100000, .i32⟩
  | 33 => ⟨S_, .i32⟩
  | 34 => ⟨S4096x32x100000, .i32⟩
  | 35 => ⟨S4096x32x100000, .i32⟩
  | 36 => ⟨S4096x32x100000, .i32⟩
  | 37 => ⟨S4096x32x100000, .i32⟩
  | 38 => ⟨S4096x32x100000, .i32⟩
  | 39 => ⟨S_, .i32⟩
  | 40 => ⟨S4096x32x100000, .i32⟩
  | 41 => ⟨S4096x32x100000, .i32⟩
  | 42 => ⟨S_, .i32⟩
  | 43 => ⟨S4096x32x100000, .i32⟩
  | 44 => ⟨S4096x32x100000, .i32⟩
  | 45 => ⟨S4096x32x100000, .i32⟩
  | 46 => ⟨S4096x32x100000, .i32⟩
  | 47 => ⟨S4096x32x100000, .i32⟩
  | 48 => ⟨S4096x32x100000, .i32⟩
  | 49 => ⟨S4096x32x100000, .i32⟩
  | 50 => ⟨S4096x32x100000, .i32⟩
  | 51 => ⟨S_, .i32⟩
  | 52 => ⟨S4096x32x100000, .i32⟩
  | 53 => ⟨S4096x32x100000, .i32⟩
  | 54 => ⟨S4096x32x100000, .i32⟩
  | 55 => ⟨S_, .i32⟩
  | 56 => ⟨S4096x32x100000, .i32⟩
  | 57 => ⟨S4096x32x100000, .i32⟩
  | 58 => ⟨S_, .i32⟩
  | 59 => ⟨S4096x32x100000, .i32⟩
  | 60 => ⟨S4096x32x100000, .i32⟩
  | 61 => ⟨S4096x32x100000, .i32⟩
  | 62 => ⟨S4096x32x100000, .i32⟩
  | 63 => ⟨S4096x32x100000, .i32⟩
  | 64 => ⟨S_, .i32⟩
  | 65 => ⟨S4096x32x100000, .i32⟩
  | 66 => ⟨S4096x32x100000, .i32⟩
  | 67 => ⟨S_, .i32⟩
  | 68 => ⟨S4096x32x100000, .i32⟩
  | 69 => ⟨S4096x32x100000, .i32⟩
  | 70 => ⟨S4096x32x100000, .i32⟩
  | 71 => ⟨S4096x32x100000, .i32⟩
  | 72 => ⟨S4096x32x100000, .i32⟩
  | 73 => ⟨S_, .i32⟩
  | 74 => ⟨S4096x32x100000, .i32⟩
  | 75 => ⟨S4096x32x100000, .i32⟩
  | 76 => ⟨S_, .i32⟩
  | 77 => ⟨S4096x32x100000, .i32⟩
  | 78 => ⟨S4096x32x100000, .i32⟩
  | 79 => ⟨S4096x32x100000, .i32⟩
  | 80 => ⟨S4096x32x100000, .i32⟩
  | 81 => ⟨S4096x32x100000, .i32⟩
  | 82 => ⟨S_, .i32⟩
  | 83 => ⟨S4096x32x100000, .i32⟩
  | 84 => ⟨S4096x32x100000, .i32⟩
  | 85 => ⟨S_, .i32⟩
  | 86 => ⟨S4096x32x100000, .i32⟩
  | 87 => ⟨S4096x32x100000, .i32⟩
  | 88 => ⟨S4096x32x100000, .i32⟩
  | 89 => ⟨S4096x32x100000, .i32⟩
  | 90 => ⟨S4096x32x100000, .i32⟩
  | 91 => ⟨S4096x32x100000, .i32⟩
  | 92 => ⟨S4096x32x100000, .i32⟩
  | 93 => ⟨S4096x32x100000, .i32⟩
  | 94 => ⟨S_, .i32⟩
  | 95 => ⟨S4096x32x100000, .i32⟩
  | 96 => ⟨S4096x32x100000, .i32⟩
  | 97 => ⟨S4096x32x100000, .i32⟩
  | 98 => ⟨S_, .i32⟩
  | 99 => ⟨S4096x32x100000, .i32⟩
  | 100 => ⟨S4096x32x100000, .i32⟩
  | 101 => ⟨S_, .i32⟩
  | 102 => ⟨S4096x32x100000, .i32⟩
  | 103 => ⟨S4096x32x100000, .i32⟩
  | 104 => ⟨S4096x32x100000, .i32⟩
  | 105 => ⟨S4096x32x100000, .i32⟩
  | 106 => ⟨S4096x32x100000, .i32⟩
  | 107 => ⟨S_, .i32⟩
  | 108 => ⟨S4096x32x100000, .i32⟩
  | 109 => ⟨S4096x32x100000, .i32⟩
  | 110 => ⟨S_, .i32⟩
  | 111 => ⟨S4096x32x100000, .i32⟩
  | 112 => ⟨S4096x32x100000, .i32⟩
  | 113 => ⟨S4096x32x100000, .i32⟩
  | 114 => ⟨S4096x32x100000, .i32⟩
  | 115 => ⟨S4096x32x100000, .i32⟩
  | 116 => ⟨S_, .i32⟩
  | 117 => ⟨S4096x32x100000, .i32⟩
  | 118 => ⟨S4096x32x100000, .i32⟩
  | 119 => ⟨S_, .i32⟩
  | 120 => ⟨S4096x32x100000, .i32⟩
  | 121 => ⟨S4096x32x100000, .i32⟩
  | 122 => ⟨S4096x32x100000, .i32⟩
  | 123 => ⟨S4096x32x100000, .i32⟩
  | 124 => ⟨S4096x32x100000, .i32⟩
  | 125 => ⟨S_, .i32⟩
  | 126 => ⟨S4096x32x100000, .i32⟩
  | 127 => ⟨S4096x32x100000, .i32⟩
  | _ => ⟨S32x100000, .f32⟩

abbrev hbmTy0_2 (i : Nat) : BufTy := match i % 128 with
  | 0 => ⟨S_, .i32⟩
  | 1 => ⟨S4096x32x100000, .i32⟩
  | 2 => ⟨S4096x32x100000, .i32⟩
  | 3 => ⟨S4096x32x100000, .i32⟩
  | 4 => ⟨S4096x32x100000, .i32⟩
  | 5 => ⟨S4096x32x100000, .i32⟩
  | 6 => ⟨S4096x32x100000, .i32⟩
  | 7 => ⟨S4096x32x100000, .i32⟩
  | 8 => ⟨S4096x32x100000, .i32⟩
  | 9 => ⟨S_, .i32⟩
  | 10 => ⟨S4096x32x100000, .i32⟩
  | 11 => ⟨S4096x32x100000, .i32⟩
  | 12 => ⟨S4096x32x100000, .i32⟩
  | 13 => ⟨S_, .i32⟩
  | 14 => ⟨S4096x32x100000, .i32⟩
  | 15 => ⟨S4096x32x100000, .i32⟩
  | 16 => ⟨S_, .i32⟩
  | 17 => ⟨S4096x32x100000, .i32⟩
  | 18 => ⟨S4096x32x100000, .i32⟩
  | 19 => ⟨S4096x32x100000, .f32⟩
  | 20 => ⟨S_, .f32⟩
  | 21 => ⟨S4096x32x100000, .f32⟩
  | 22 => ⟨S4096x32x100000, .f32⟩
  | 23 => ⟨S1x1x1, .f32⟩
  | 24 => ⟨S4096x32x100000, .f32⟩
  | 25 => ⟨S4096x32x100000, .f32⟩
  | 26 => ⟨S4096x32x100000, .f32⟩
  | 27 => ⟨S4096x32x100000, .f32⟩
  | 28 => ⟨S4096x32x100000, .f32⟩
  | 29 => ⟨S4096x32x100000, .f32⟩
  | 30 => ⟨S_, .f32⟩
  | 31 => ⟨S4096x32x100000, .f32⟩
  | 32 => ⟨S4096x32x100000, .f32⟩
  | 33 => ⟨S4096x32x100000, .f32⟩
  | 34 => ⟨S4096x32x100000, .f32⟩
  | 35 => ⟨S4096x32x100000, .f32⟩
  | 36 => ⟨S4096x32x100000, .f32⟩
  | 37 => ⟨S1x32x100000, .f32⟩
  | 38 => ⟨S4096x32x100000, .f32⟩
  | 39 => ⟨S4096x32x100000, .f32⟩
  | 40 => ⟨S4096x32x100000, .i32⟩
  | 41 => ⟨S_, .f32⟩
  | 42 => ⟨S_, .i32⟩
  | 43 => ⟨S4096x32, .f32⟩
  | 44 => ⟨S4096x32, .i32⟩
  | _ => ⟨S32x100000, .f32⟩

abbrev hbmTy (i : Nat) : BufTy := match i / 128 with
  | 0 => hbmTy0_0 i
  | 1 => hbmTy0_1 i
  | 2 => hbmTy0_2 i
  | _ => ⟨S32x100000, .f32⟩

abbrev bufTy : (tb : Table) → Fin (tcTables nBuf tb) → BufTy
  | .hbm, ⟨i, _⟩ => hbmTy i
  | _, _ => ⟨S32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c : Ref sig .tc := ⟨.hbm, 30, rfl⟩
abbrev main_call0_v11 : Ref sig .tc := ⟨.hbm, 31, rfl⟩
abbrev main_call0_v12 : Ref sig .tc := ⟨.hbm, 32, rfl⟩
abbrev main_call0_c_0 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_c_2 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_call0_v0 : Ref sig .tc := ⟨.hbm, 46, rfl⟩
abbrev main_call0_call0_c : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_0 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_1 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_c_2 : Ref sig .tc := ⟨.hbm, 63, rfl⟩
abbrev main_call0_call0_v14 : Ref sig .tc := ⟨.hbm, 64, rfl⟩
abbrev main_call0_call0_v15 : Ref sig .tc := ⟨.hbm, 65, rfl⟩
abbrev main_call0_call0_c_3 : Ref sig .tc := ⟨.hbm, 66, rfl⟩
abbrev main_call0_call0_v16 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_c_4 : Ref sig .tc := ⟨.hbm, 72, rfl⟩
abbrev main_call0_call0_v21 : Ref sig .tc := ⟨.hbm, 73, rfl⟩
abbrev main_call0_call0_v22 : Ref sig .tc := ⟨.hbm, 74, rfl⟩
abbrev main_call0_call0_c_5 : Ref sig .tc := ⟨.hbm, 75, rfl⟩
abbrev main_call0_call0_v23 : Ref sig .tc := ⟨.hbm, 76, rfl⟩
abbrev main_call0_call0_v24 : Ref sig .tc := ⟨.hbm, 77, rfl⟩
abbrev main_call0_call0_v25 : Ref sig .tc := ⟨.hbm, 78, rfl⟩
abbrev main_call0_call0_v26 : Ref sig .tc := ⟨.hbm, 79, rfl⟩
abbrev main_call0_call0_v27 : Ref sig .tc := ⟨.hbm, 80, rfl⟩
abbrev main_call0_call0_c_6 : Ref sig .tc := ⟨.hbm, 81, rfl⟩
abbrev main_call0_call0_v28 : Ref sig .tc := ⟨.hbm, 82, rfl⟩
abbrev main_call0_call0_v29 : Ref sig .tc := ⟨.hbm, 83, rfl⟩
abbrev main_call0_call0_c_7 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_v32 : Ref sig .tc := ⟨.hbm, 87, rfl⟩
abbrev main_call0_call0_v33 : Ref sig .tc := ⟨.hbm, 88, rfl⟩
abbrev main_call0_call0_v34 : Ref sig .tc := ⟨.hbm, 89, rfl⟩
abbrev main_call0_call0_v35 : Ref sig .tc := ⟨.hbm, 90, rfl⟩
abbrev main_call0_call0_v36 : Ref sig .tc := ⟨.hbm, 91, rfl⟩
abbrev main_call0_call0_v37 : Ref sig .tc := ⟨.hbm, 92, rfl⟩
abbrev main_call0_call0_c_8 : Ref sig .tc := ⟨.hbm, 93, rfl⟩
abbrev main_call0_call0_v38 : Ref sig .tc := ⟨.hbm, 94, rfl⟩
abbrev main_call0_call0_v39 : Ref sig .tc := ⟨.hbm, 95, rfl⟩
abbrev main_call0_call0_v40 : Ref sig .tc := ⟨.hbm, 96, rfl⟩
abbrev main_call0_call0_c_9 : Ref sig .tc := ⟨.hbm, 97, rfl⟩
abbrev main_call0_call0_v41 : Ref sig .tc := ⟨.hbm, 98, rfl⟩
abbrev main_call0_call0_v42 : Ref sig .tc := ⟨.hbm, 99, rfl⟩
abbrev main_call0_call0_c_10 : Ref sig .tc := ⟨.hbm, 100, rfl⟩
abbrev main_call0_call0_v43 : Ref sig .tc := ⟨.hbm, 101, rfl⟩
abbrev main_call0_call0_v44 : Ref sig .tc := ⟨.hbm, 102, rfl⟩
abbrev main_call0_call0_v45 : Ref sig .tc := ⟨.hbm, 103, rfl⟩
abbrev main_call0_call0_v46 : Ref sig .tc := ⟨.hbm, 104, rfl⟩
abbrev main_call0_call0_v47 : Ref sig .tc := ⟨.hbm, 105, rfl⟩
abbrev main_call0_call0_c_11 : Ref sig .tc := ⟨.hbm, 106, rfl⟩
abbrev main_call0_call0_v48 : Ref sig .tc := ⟨.hbm, 107, rfl⟩
abbrev main_call0_call0_v49 : Ref sig .tc := ⟨.hbm, 108, rfl⟩
abbrev main_call0_call0_c_12 : Ref sig .tc := ⟨.hbm, 109, rfl⟩
abbrev main_call0_call0_v50 : Ref sig .tc := ⟨.hbm, 110, rfl⟩
abbrev main_call0_call0_v51 : Ref sig .tc := ⟨.hbm, 111, rfl⟩
abbrev main_call0_call0_v52 : Ref sig .tc := ⟨.hbm, 112, rfl⟩
abbrev main_call0_call0_v53 : Ref sig .tc := ⟨.hbm, 113, rfl⟩
abbrev main_call0_call0_v54 : Ref sig .tc := ⟨.hbm, 114, rfl⟩
abbrev main_call0_call0_c_13 : Ref sig .tc := ⟨.hbm, 115, rfl⟩
abbrev main_call0_call0_v55 : Ref sig .tc := ⟨.hbm, 116, rfl⟩
abbrev main_call0_call0_v56 : Ref sig .tc := ⟨.hbm, 117, rfl⟩
abbrev main_call0_call0_c_14 : Ref sig .tc := ⟨.hbm, 118, rfl⟩
abbrev main_call0_call0_v57 : Ref sig .tc := ⟨.hbm, 119, rfl⟩
abbrev main_call0_call0_v58 : Ref sig .tc := ⟨.hbm, 120, rfl⟩
abbrev main_call0_call0_v59 : Ref sig .tc := ⟨.hbm, 121, rfl⟩
abbrev main_call0_call0_v60 : Ref sig .tc := ⟨.hbm, 122, rfl⟩
abbrev main_call0_call0_v61 : Ref sig .tc := ⟨.hbm, 123, rfl⟩
abbrev main_call0_call0_c_15 : Ref sig .tc := ⟨.hbm, 124, rfl⟩
abbrev main_call0_call0_v62 : Ref sig .tc := ⟨.hbm, 125, rfl⟩
abbrev main_call0_call0_v63 : Ref sig .tc := ⟨.hbm, 126, rfl⟩
abbrev main_call0_call0_c_16 : Ref sig .tc := ⟨.hbm, 127, rfl⟩
abbrev main_call0_call0_v64 : Ref sig .tc := ⟨.hbm, 128, rfl⟩
abbrev main_call0_call0_v65 : Ref sig .tc := ⟨.hbm, 129, rfl⟩
abbrev main_call0_call0_v66 : Ref sig .tc := ⟨.hbm, 130, rfl⟩
abbrev main_call0_call0_v67 : Ref sig .tc := ⟨.hbm, 131, rfl⟩
abbrev main_call0_call0_v68 : Ref sig .tc := ⟨.hbm, 132, rfl⟩
abbrev main_call0_call0_v69 : Ref sig .tc := ⟨.hbm, 133, rfl⟩
abbrev main_call0_call0_v70 : Ref sig .tc := ⟨.hbm, 134, rfl⟩
abbrev main_call0_call0_v71 : Ref sig .tc := ⟨.hbm, 135, rfl⟩
abbrev main_call0_call0_c_17 : Ref sig .tc := ⟨.hbm, 136, rfl⟩
abbrev main_call0_call0_v72 : Ref sig .tc := ⟨.hbm, 137, rfl⟩
abbrev main_call0_call0_v73 : Ref sig .tc := ⟨.hbm, 138, rfl⟩
abbrev main_call0_call0_v74 : Ref sig .tc := ⟨.hbm, 139, rfl⟩
abbrev main_call0_call0_c_18 : Ref sig .tc := ⟨.hbm, 140, rfl⟩
abbrev main_call0_call0_v75 : Ref sig .tc := ⟨.hbm, 141, rfl⟩
abbrev main_call0_call0_v76 : Ref sig .tc := ⟨.hbm, 142, rfl⟩
abbrev main_call0_call0_c_19 : Ref sig .tc := ⟨.hbm, 143, rfl⟩
abbrev main_call0_call0_v77 : Ref sig .tc := ⟨.hbm, 144, rfl⟩
abbrev main_call0_call0_v78 : Ref sig .tc := ⟨.hbm, 145, rfl⟩
abbrev main_call0_call0_v79 : Ref sig .tc := ⟨.hbm, 146, rfl⟩
abbrev main_call0_call0_v80 : Ref sig .tc := ⟨.hbm, 147, rfl⟩
abbrev main_call0_call0_v81 : Ref sig .tc := ⟨.hbm, 148, rfl⟩
abbrev main_call0_call0_c_20 : Ref sig .tc := ⟨.hbm, 149, rfl⟩
abbrev main_call0_call0_v82 : Ref sig .tc := ⟨.hbm, 150, rfl⟩
abbrev main_call0_call0_v83 : Ref sig .tc := ⟨.hbm, 151, rfl⟩
abbrev main_call0_call0_c_21 : Ref sig .tc := ⟨.hbm, 152, rfl⟩
abbrev main_call0_call0_v84 : Ref sig .tc := ⟨.hbm, 153, rfl⟩
abbrev main_call0_call0_v85 : Ref sig .tc := ⟨.hbm, 154, rfl⟩
abbrev main_call0_call0_v86 : Ref sig .tc := ⟨.hbm, 155, rfl⟩
abbrev main_call0_call0_v87 : Ref sig .tc := ⟨.hbm, 156, rfl⟩
abbrev main_call0_call0_v88 : Ref sig .tc := ⟨.hbm, 157, rfl⟩
abbrev main_call0_call0_c_22 : Ref sig .tc := ⟨.hbm, 158, rfl⟩
abbrev main_call0_call0_v89 : Ref sig .tc := ⟨.hbm, 159, rfl⟩
abbrev main_call0_call0_v90 : Ref sig .tc := ⟨.hbm, 160, rfl⟩
abbrev main_call0_call0_c_23 : Ref sig .tc := ⟨.hbm, 161, rfl⟩
abbrev main_call0_call0_v91 : Ref sig .tc := ⟨.hbm, 162, rfl⟩
abbrev main_call0_call0_v92 : Ref sig .tc := ⟨.hbm, 163, rfl⟩
abbrev main_call0_call0_v93 : Ref sig .tc := ⟨.hbm, 164, rfl⟩
abbrev main_call0_call0_v94 : Ref sig .tc := ⟨.hbm, 165, rfl⟩
abbrev main_call0_call0_v95 : Ref sig .tc := ⟨.hbm, 166, rfl⟩
abbrev main_call0_call0_c_24 : Ref sig .tc := ⟨.hbm, 167, rfl⟩
abbrev main_call0_call0_v96 : Ref sig .tc := ⟨.hbm, 168, rfl⟩
abbrev main_call0_call0_v97 : Ref sig .tc := ⟨.hbm, 169, rfl⟩
abbrev main_call0_call0_c_25 : Ref sig .tc := ⟨.hbm, 170, rfl⟩
abbrev main_call0_call0_v98 : Ref sig .tc := ⟨.hbm, 171, rfl⟩
abbrev main_call0_call0_v99 : Ref sig .tc := ⟨.hbm, 172, rfl⟩
abbrev main_call0_call0_v100 : Ref sig .tc := ⟨.hbm, 173, rfl⟩
abbrev main_call0_call0_v101 : Ref sig .tc := ⟨.hbm, 174, rfl⟩
abbrev main_call0_call0_v102 : Ref sig .tc := ⟨.hbm, 175, rfl⟩
abbrev main_call0_call0_v103 : Ref sig .tc := ⟨.hbm, 176, rfl⟩
abbrev main_call0_call0_v104 : Ref sig .tc := ⟨.hbm, 177, rfl⟩
abbrev main_call0_call0_v105 : Ref sig .tc := ⟨.hbm, 178, rfl⟩
abbrev main_call0_call0_c_26 : Ref sig .tc := ⟨.hbm, 179, rfl⟩
abbrev main_call0_call0_v106 : Ref sig .tc := ⟨.hbm, 180, rfl⟩
abbrev main_call0_call0_v107 : Ref sig .tc := ⟨.hbm, 181, rfl⟩
abbrev main_call0_call0_v108 : Ref sig .tc := ⟨.hbm, 182, rfl⟩
abbrev main_call0_call0_c_27 : Ref sig .tc := ⟨.hbm, 183, rfl⟩
abbrev main_call0_call0_v109 : Ref sig .tc := ⟨.hbm, 184, rfl⟩
abbrev main_call0_call0_v110 : Ref sig .tc := ⟨.hbm, 185, rfl⟩
abbrev main_call0_call0_c_28 : Ref sig .tc := ⟨.hbm, 186, rfl⟩
abbrev main_call0_call0_v111 : Ref sig .tc := ⟨.hbm, 187, rfl⟩
abbrev main_call0_call0_v112 : Ref sig .tc := ⟨.hbm, 188, rfl⟩
abbrev main_call0_call0_v113 : Ref sig .tc := ⟨.hbm, 189, rfl⟩
abbrev main_call0_call0_v114 : Ref sig .tc := ⟨.hbm, 190, rfl⟩
abbrev main_call0_call0_v115 : Ref sig .tc := ⟨.hbm, 191, rfl⟩
abbrev main_call0_call0_c_29 : Ref sig .tc := ⟨.hbm, 192, rfl⟩
abbrev main_call0_call0_v116 : Ref sig .tc := ⟨.hbm, 193, rfl⟩
abbrev main_call0_call0_v117 : Ref sig .tc := ⟨.hbm, 194, rfl⟩
abbrev main_call0_call0_c_30 : Ref sig .tc := ⟨.hbm, 195, rfl⟩
abbrev main_call0_call0_v118 : Ref sig .tc := ⟨.hbm, 196, rfl⟩
abbrev main_call0_call0_v119 : Ref sig .tc := ⟨.hbm, 197, rfl⟩
abbrev main_call0_call0_v120 : Ref sig .tc := ⟨.hbm, 198, rfl⟩
abbrev main_call0_call0_v121 : Ref sig .tc := ⟨.hbm, 199, rfl⟩
abbrev main_call0_call0_v122 : Ref sig .tc := ⟨.hbm, 200, rfl⟩
abbrev main_call0_call0_c_31 : Ref sig .tc := ⟨.hbm, 201, rfl⟩
abbrev main_call0_call0_v123 : Ref sig .tc := ⟨.hbm, 202, rfl⟩
abbrev main_call0_call0_v124 : Ref sig .tc := ⟨.hbm, 203, rfl⟩
abbrev main_call0_call0_c_32 : Ref sig .tc := ⟨.hbm, 204, rfl⟩
abbrev main_call0_call0_v125 : Ref sig .tc := ⟨.hbm, 205, rfl⟩
abbrev main_call0_call0_v126 : Ref sig .tc := ⟨.hbm, 206, rfl⟩
abbrev main_call0_call0_v127 : Ref sig .tc := ⟨.hbm, 207, rfl⟩
abbrev main_call0_call0_v128 : Ref sig .tc := ⟨.hbm, 208, rfl⟩
abbrev main_call0_call0_v129 : Ref sig .tc := ⟨.hbm, 209, rfl⟩
abbrev main_call0_call0_c_33 : Ref sig .tc := ⟨.hbm, 210, rfl⟩
abbrev main_call0_call0_v130 : Ref sig .tc := ⟨.hbm, 211, rfl⟩
abbrev main_call0_call0_v131 : Ref sig .tc := ⟨.hbm, 212, rfl⟩
abbrev main_call0_call0_c_34 : Ref sig .tc := ⟨.hbm, 213, rfl⟩
abbrev main_call0_call0_v132 : Ref sig .tc := ⟨.hbm, 214, rfl⟩
abbrev main_call0_call0_v133 : Ref sig .tc := ⟨.hbm, 215, rfl⟩
abbrev main_call0_call0_v134 : Ref sig .tc := ⟨.hbm, 216, rfl⟩
abbrev main_call0_call0_v135 : Ref sig .tc := ⟨.hbm, 217, rfl⟩
abbrev main_call0_call0_v136 : Ref sig .tc := ⟨.hbm, 218, rfl⟩
abbrev main_call0_call0_v137 : Ref sig .tc := ⟨.hbm, 219, rfl⟩
abbrev main_call0_call0_v138 : Ref sig .tc := ⟨.hbm, 220, rfl⟩
abbrev main_call0_call0_v139 : Ref sig .tc := ⟨.hbm, 221, rfl⟩
abbrev main_call0_call0_c_35 : Ref sig .tc := ⟨.hbm, 222, rfl⟩
abbrev main_call0_call0_v140 : Ref sig .tc := ⟨.hbm, 223, rfl⟩
abbrev main_call0_call0_v141 : Ref sig .tc := ⟨.hbm, 224, rfl⟩
abbrev main_call0_call0_v142 : Ref sig .tc := ⟨.hbm, 225, rfl⟩
abbrev main_call0_call0_c_36 : Ref sig .tc := ⟨.hbm, 226, rfl⟩
abbrev main_call0_call0_v143 : Ref sig .tc := ⟨.hbm, 227, rfl⟩
abbrev main_call0_call0_v144 : Ref sig .tc := ⟨.hbm, 228, rfl⟩
abbrev main_call0_call0_c_37 : Ref sig .tc := ⟨.hbm, 229, rfl⟩
abbrev main_call0_call0_v145 : Ref sig .tc := ⟨.hbm, 230, rfl⟩
abbrev main_call0_call0_v146 : Ref sig .tc := ⟨.hbm, 231, rfl⟩
abbrev main_call0_call0_v147 : Ref sig .tc := ⟨.hbm, 232, rfl⟩
abbrev main_call0_call0_v148 : Ref sig .tc := ⟨.hbm, 233, rfl⟩
abbrev main_call0_call0_v149 : Ref sig .tc := ⟨.hbm, 234, rfl⟩
abbrev main_call0_call0_c_38 : Ref sig .tc := ⟨.hbm, 235, rfl⟩
abbrev main_call0_call0_v150 : Ref sig .tc := ⟨.hbm, 236, rfl⟩
abbrev main_call0_call0_v151 : Ref sig .tc := ⟨.hbm, 237, rfl⟩
abbrev main_call0_call0_c_39 : Ref sig .tc := ⟨.hbm, 238, rfl⟩
abbrev main_call0_call0_v152 : Ref sig .tc := ⟨.hbm, 239, rfl⟩
abbrev main_call0_call0_v153 : Ref sig .tc := ⟨.hbm, 240, rfl⟩
abbrev main_call0_call0_v154 : Ref sig .tc := ⟨.hbm, 241, rfl⟩
abbrev main_call0_call0_v155 : Ref sig .tc := ⟨.hbm, 242, rfl⟩
abbrev main_call0_call0_v156 : Ref sig .tc := ⟨.hbm, 243, rfl⟩
abbrev main_call0_call0_c_40 : Ref sig .tc := ⟨.hbm, 244, rfl⟩
abbrev main_call0_call0_v157 : Ref sig .tc := ⟨.hbm, 245, rfl⟩
abbrev main_call0_call0_v158 : Ref sig .tc := ⟨.hbm, 246, rfl⟩
abbrev main_call0_call0_c_41 : Ref sig .tc := ⟨.hbm, 247, rfl⟩
abbrev main_call0_call0_v159 : Ref sig .tc := ⟨.hbm, 248, rfl⟩
abbrev main_call0_call0_v160 : Ref sig .tc := ⟨.hbm, 249, rfl⟩
abbrev main_call0_call0_v161 : Ref sig .tc := ⟨.hbm, 250, rfl⟩
abbrev main_call0_call0_v162 : Ref sig .tc := ⟨.hbm, 251, rfl⟩
abbrev main_call0_call0_v163 : Ref sig .tc := ⟨.hbm, 252, rfl⟩
abbrev main_call0_call0_c_42 : Ref sig .tc := ⟨.hbm, 253, rfl⟩
abbrev main_call0_call0_v164 : Ref sig .tc := ⟨.hbm, 254, rfl⟩
abbrev main_call0_call0_v165 : Ref sig .tc := ⟨.hbm, 255, rfl⟩
abbrev main_call0_call0_c_43 : Ref sig .tc := ⟨.hbm, 256, rfl⟩
abbrev main_call0_call0_v166 : Ref sig .tc := ⟨.hbm, 257, rfl⟩
abbrev main_call0_call0_v167 : Ref sig .tc := ⟨.hbm, 258, rfl⟩
abbrev main_call0_call0_v168 : Ref sig .tc := ⟨.hbm, 259, rfl⟩
abbrev main_call0_call0_v169 : Ref sig .tc := ⟨.hbm, 260, rfl⟩
abbrev main_call0_call0_v170 : Ref sig .tc := ⟨.hbm, 261, rfl⟩
abbrev main_call0_v23_0 : Ref sig .tc := ⟨.hbm, 262, rfl⟩
abbrev main_call0_call0_v172 : Ref sig .tc := ⟨.hbm, 263, rfl⟩
abbrev main_call0_call0_v173 : Ref sig .tc := ⟨.hbm, 264, rfl⟩
abbrev main_call0_call0_c_44 : Ref sig .tc := ⟨.hbm, 265, rfl⟩
abbrev main_call0_call0_v174 : Ref sig .tc := ⟨.hbm, 266, rfl⟩
abbrev main_call0_v23_1 : Ref sig .tc := ⟨.hbm, 267, rfl⟩
abbrev main_call0_v24 : Ref sig .tc := ⟨.hbm, 268, rfl⟩
abbrev main_call0_c_3 : Ref sig .tc := ⟨.hbm, 269, rfl⟩
abbrev main_call0_v25 : Ref sig .tc := ⟨.hbm, 270, rfl⟩
abbrev main_call0_v26 : Ref sig .tc := ⟨.hbm, 271, rfl⟩
abbrev main_call0_c_4 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_cst : Ref sig .tc := ⟨.hbm, 276, rfl⟩
abbrev main_call0_v30 : Ref sig .tc := ⟨.hbm, 277, rfl⟩
abbrev main_call0_v31 : Ref sig .tc := ⟨.hbm, 278, rfl⟩
abbrev main_call0_v32 : Ref sig .tc := ⟨.hbm, 279, rfl⟩
abbrev main_call0_v33 : Ref sig .tc := ⟨.hbm, 280, rfl⟩
abbrev main_call0_v34 : Ref sig .tc := ⟨.hbm, 281, rfl⟩
abbrev main_call0_v35 : Ref sig .tc := ⟨.hbm, 282, rfl⟩
abbrev main_call0_v36 : Ref sig .tc := ⟨.hbm, 283, rfl⟩
abbrev main_call0_v37 : Ref sig .tc := ⟨.hbm, 284, rfl⟩
abbrev main_v12 : Ref sig .tc := ⟨.hbm, 285, rfl⟩
abbrev main_cst_4 : Ref sig .tc := ⟨.hbm, 286, rfl⟩
abbrev main_v13 : Ref sig .tc := ⟨.hbm, 287, rfl⟩
abbrev main_v14 : Ref sig .tc := ⟨.hbm, 288, rfl⟩
abbrev main_v15 : Ref sig .tc := ⟨.hbm, 289, rfl⟩
abbrev main_v16 : Ref sig .tc := ⟨.hbm, 290, rfl⟩
abbrev main_v17 : Ref sig .tc := ⟨.hbm, 291, rfl⟩
abbrev main_v18 : Ref sig .tc := ⟨.hbm, 292, rfl⟩
abbrev main_v19 : Ref sig .tc := ⟨.hbm, 293, rfl⟩
abbrev main_v20 : Ref sig .tc := ⟨.hbm, 294, rfl⟩
abbrev main_v21 : Ref sig .tc := ⟨.hbm, 295, rfl⟩
abbrev main_call1_v0 : Ref sig .tc := ⟨.hbm, 296, rfl⟩
abbrev main_call1_cst : Ref sig .tc := ⟨.hbm, 297, rfl⟩
abbrev main_call1_c : Ref sig .tc := ⟨.hbm, 298, rfl⟩
abbrev main_call1_v1_0 : Ref sig .tc := ⟨.hbm, 299, rfl⟩
abbrev main_v22 : Ref sig .tc := ⟨.hbm, 300, rfl⟩

abbrev nD : Nat := 1
abbrev τ : Topo := Topo.v7x

variable {F : FTy → Type} [FloatOps F]
-- ==== Proof.Line.lean ====
/-
  Reading a straight line of host operations by its equations. When no operation of the line overwrites a buffer that an
  earlier one reads or writes, each operation's equation "result = f (operands)" still holds of the contents at the END of
  the line, so a value of the line is found by chaining equations over one valuation.
-/
module

public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}

/-! ## Programs that are a straight line -/

theorem isSeq_single (op : HloOp τ sig Val) :
    IsSeq (nD := nD) (Λ := Λ) (hlo rfl op fun _ => .ret (⟨⟩ : PUnit)) [op] := by
  unfold IsSeq; rfl

theorem isSeq_append {p q : Prog (TpuEff nD τ sig Val Λ .tc) PUnit} {l k : List (HloOp τ sig Val)}
    (hp : IsSeq p l) (hq : IsSeq q k) : IsSeq (p >>= fun _ => q) (l ++ k) := by
  unfold IsSeq at *
  rw [seq_append, hp, hq]

/-! ## The equations of a line -/

/-- What valuation `W` holds in the typed buffer `x`. -/
def rd (W : Valuation τ sig Val) {T : BufTy} (x : TRef sig T) : T.Contents Val := x.ofBuf (W (Proc.devRef .tc x.ref))

/-- `W` satisfies the equation of `op`: what `op` would write is already there. -/
def Sat (W : Valuation τ sig Val) (op : HloOp τ sig Val) : Prop := ∀ b ∈ op.writes, op.result W b = W b

/-- `W` satisfies the equation of every operation of the line. -/
def Eqs (W : Valuation τ sig Val) (ops : List (HloOp τ sig Val)) : Prop := ∀ op ∈ ops, Sat W op

theorem eqs_append (W : Valuation τ sig Val) (l k : List (HloOp τ sig Val)) : Eqs W (l ++ k) ↔ Eqs W l ∧ Eqs W k := by
  simp only [Eqs, List.mem_append, or_imp, forall_and]

theorem eqs_cons (W : Valuation τ sig Val) (op : HloOp τ sig Val) (l : List (HloOp τ sig Val)) :
    Eqs W (op :: l) ↔ Sat W op ∧ Eqs W l := by
  simp only [Eqs, List.forall_mem_cons]

theorem eqs_nil (W : Valuation τ sig Val) : Eqs W [] ↔ True := by simp [Eqs]

variable {T Ta Tb Tc Td : BufTy}

/-- A value written to a typed buffer is what is read there exactly when it is there. -/
theorem toBuf_eq_iff (W : Valuation τ sig Val) (y : TRef sig T) (v : T.Contents Val) :
    y.toBuf v = W (Proc.devRef .tc y.ref) ↔ rd W y = v := by
  constructor
  · intro h; unfold rd; rw [← h, TRef.ofBuf_toBuf]
  · intro h; subst h; unfold rd; obtain ⟨r, rfl, _, _⟩ := y; rfl

theorem sat_nullary (W : Valuation τ sig Val) (y : TRef sig T) (v : T.Contents Val) :
    Sat W (TRef.nullary y v) ↔ rd W y = v := by
  rw [← toBuf_eq_iff]
  simp only [Sat, nullary_writes, Finset.mem_singleton, forall_eq, nullary_result']

theorem sat_unary (W : Valuation τ sig Val) (x : TRef sig Ta) (y : TRef sig T) (f : Ta.Contents Val → T.Contents Val) :
    Sat W (TRef.unary x y f) ↔ rd W y = f (rd W x) := by
  rw [← toBuf_eq_iff]
  simp only [Sat, unary_writes, Finset.mem_singleton, forall_eq, unary_result']; rfl

theorem sat_binary (W : Valuation τ sig Val) (a : TRef sig Ta) (b : TRef sig Tb) (y : TRef sig T)
    (f : Ta.Contents Val → Tb.Contents Val → T.Contents Val) :
    Sat W (TRef.binary a b y f) ↔ rd W y = f (rd W a) (rd W b) := by
  rw [← toBuf_eq_iff]
  simp only [Sat, binary_writes, Finset.mem_singleton, forall_eq, binary_result']; rfl

theorem sat_quaternary (W : Valuation τ sig Val) (a : TRef sig Ta) (b : TRef sig Tb) (c : TRef sig Tc) (d : TRef sig Td)
    (y : TRef sig T) (f : Ta.Contents Val → Tb.Contents Val → Tc.Contents Val → Td.Contents Val → T.Contents Val) :
    Sat W (TRef.quaternary a b c d y f) ↔ rd W y = f (rd W a) (rd W b) (rd W c) (rd W d) := by
  rw [← toBuf_eq_iff]
  simp only [Sat, quaternary_writes, Finset.mem_singleton, forall_eq, quaternary_result']; rfl

theorem sat_reshape (W : Valuation τ sig Val) (x : TRef sig Ta) (y : TRef sig T) (he : Ta.elt = T.elt)
    (hn : Ta.shape.ShapeCasts T.shape) :
    Sat W (TRef.reshape (τ := τ) (Val := Val) x y he hn) ↔ rd W y = fun i => he ▸ shapeCast T.shape (rd W x) hn i := by
  obtain ⟨rx, rfl, _, _⟩ := x
  obtain ⟨ry, rfl, _, _⟩ := y
  simp only [Sat, reshape_writes, Finset.mem_singleton, forall_eq, reshape_result']
  exact eq_comm

/-! ## When a line's end satisfies its equations -/

/-- What is recorded of one operation: the reference it writes and those it reads. -/
structure Foot (τ : Topo) (sig : RefSig) where
  /-- The reference written. -/
  out : Ref sig .tc
  /-- The references read. -/
  ins : List (Ref sig .tc)

/-- `d` describes `op`: it writes exactly `d.out`, touches nothing but `d.out` and `d.ins`, draws nothing, and when `d.out` is
    not among `d.ins`, running it twice leaves what running it once does. -/
structure Describes (op : HloOp τ sig Val) (d : Foot τ sig) : Prop where
  writes : op.writes = {Proc.devRef .tc d.out}
  bufs : ∀ b ∈ op.bufs, ∃ r ∈ d.out :: d.ins, b = Proc.devRef .tc r
  fresh : op.fresh = ∅
  twice : d.out ∉ d.ins → ∀ V, Sat (op.result V) op

theorem describes_nullary (y : TRef sig T) (v : T.Contents Val) :
    Describes (τ := τ) (TRef.nullary y v) ⟨y.ref, []⟩ where
  writes := nullary_writes ..
  bufs b hb := by rw [nullary_bufs] at hb; exact ⟨_, by simp, Finset.mem_singleton.1 hb⟩
  fresh := rfl
  twice _ V := by simp only [Sat, nullary_writes, Finset.mem_singleton, forall_eq, nullary_result']

theorem describes_unary (x : TRef sig Ta) (y : TRef sig T) (f : Ta.Contents Val → T.Contents Val) :
    Describes (τ := τ) (TRef.unary x y f) ⟨y.ref, [x.ref]⟩ where
  writes := unary_writes ..
  bufs b hb := by
    rw [unary_bufs] at hb; simp only [Finset.mem_insert, Finset.mem_singleton] at hb
    rcases hb with h | h <;> exact ⟨_, by simp, h⟩
  fresh := rfl
  twice h V := by
    have hx : x.ref ≠ y.ref := fun e => h (by simp [e])
    simp only [Sat, unary_writes, Finset.mem_singleton, forall_eq, unary_result']
    rw [unary_result_ne (h := hx)]

theorem describes_binary (a : TRef sig Ta) (b : TRef sig Tb) (y : TRef sig T)
    (f : Ta.Contents Val → Tb.Contents Val → T.Contents Val) :
    Describes (τ := τ) (TRef.binary a b y f) ⟨y.ref, [a.ref, b.ref]⟩ where
  writes := binary_writes ..
  bufs b hb := by
    rw [binary_bufs] at hb; simp only [Finset.mem_insert, Finset.mem_singleton] at hb
    rcases hb with h | h | h <;> exact ⟨_, by simp, h⟩
  fresh := rfl
  twice h V := by
    have ha : a.ref ≠ y.ref := fun e => h (by simp [e])
    have hb : b.ref ≠ y.ref := fun e => h (by simp [e])
    simp only [Sat, binary_writes, Finset.mem_singleton, forall_eq, binary_result']
    rw [binary_result_ne (h := ha), binary_result_ne (h := hb)]

theorem describes_quaternary (a : TRef sig Ta) (b : TRef sig Tb) (c : TRef sig Tc) (d : TRef sig Td)
    (y : TRef sig T) (f : Ta.Contents Val → Tb.Contents Val → Tc.Contents Val → Td.Contents Val → T.Contents Val) :
    Describes (τ := τ) (TRef.quaternary a b c d y f) ⟨y.ref, [a.ref, b.ref, c.ref, d.ref]⟩ where
  writes := quaternary_writes ..
  bufs b hb := by
    rw [quaternary_bufs] at hb; simp only [Finset.mem_insert, Finset.mem_singleton] at hb
    rcases hb with h | h | h | h | h <;> exact ⟨_, by simp, h⟩
  fresh := rfl
  twice h V := by
    have ha : a.ref ≠ y.ref := fun e => h (by simp [e])
    have hb : b.ref ≠ y.ref := fun e => h (by simp [e])
    have hc : c.ref ≠ y.ref := fun e => h (by simp [e])
    have hd : d.ref ≠ y.ref := fun e => h (by simp [e])
    simp only [Sat, quaternary_writes, Finset.mem_singleton, forall_eq, quaternary_result']
    rw [quaternary_result_ne (h := ha), quaternary_result_ne (h := hb), quaternary_result_ne (h := hc), quaternary_result_ne (h := hd)]

theorem describes_reshape (x : TRef sig Ta) (y : TRef sig T) (he : Ta.elt = T.elt) (hn : Ta.shape.ShapeCasts T.shape) :
    Describes (τ := τ) (Val := Val) (TRef.reshape x y he hn) ⟨y.ref, [x.ref]⟩ where
  writes := reshape_writes ..
  bufs b hb := by
    rw [reshape_bufs] at hb; simp only [Finset.mem_insert, Finset.mem_singleton] at hb
    rcases hb with h | h <;> exact ⟨_, by simp, h⟩
  fresh := rfl
  twice h V := by
    have hx : x.ref ≠ y.ref := fun e => h (by simp [e])
    simp only [Sat, reshape_writes, Finset.mem_singleton, forall_eq, reshape_result']
    rw [reshape_result_ne (h := hx)]

/-- The operations of the line, each with what is recorded of it. -/
def Described (ops : List (HloOp τ sig Val)) (ds : List (Foot τ sig)) : Prop := List.Forall₂ Describes ops ds

/-- No operation reads what it writes, and none overwrites what an earlier one reads or writes. -/
def Ordered : List (Foot τ sig) → Prop
  | [] => True
  | d :: ds => d.out ∉ d.ins ∧ (∀ e ∈ ds, e.out ∉ d.out :: d.ins) ∧ Ordered ds

/-- The same by a number for each reference, a test that computes fast. -/
def orderedBy (key : Ref sig .tc → ℕ) : List (Foot τ sig) → Bool
  | [] => true
  | d :: ds =>
    let ks := d.ins.map key
    !ks.contains (key d.out) && ds.all (fun e => !((key d.out) :: ks).contains (key e.out)) && orderedBy key ds

theorem ordered_of_by (key : Ref sig .tc → ℕ) : ∀ ds : List (Foot τ sig), orderedBy key ds = true → Ordered ds
  | [], _ => trivial
  | d :: ds, h => by
    simp only [orderedBy, Bool.and_eq_true, Bool.not_eq_true', List.all_eq_true] at h
    refine ⟨fun hm => ?_, fun e he hm => ?_, ordered_of_by key ds h.2⟩
    · have := h.1.1; rw [List.contains_iff_mem.2 (List.mem_map_of_mem hm)] at this; cases this
    · have := h.1.2 e he
      rw [← List.map_cons, List.contains_iff_mem.2 (List.mem_map_of_mem (f := key) hm)] at this; cases this

/-- A later line that does not write what `op` touches keeps `op`'s equation. -/
theorem sat_of_agree {op : HloOp τ sig Val} {V W : Valuation τ sig Val} (h : ∀ b ∈ op.bufs, W b = V b) (hs : Sat V op) : Sat W op := by
  intro b hb
  have hbb := op.writes_sub hb
  rw [h b hbb, ← hs b hb, op.result_congr h b hbb]

/-- THE LINE'S EQUATIONS HOLD AT ITS END. -/
theorem eqs_after : ∀ (ops : List (HloOp τ sig Val)) (ds : List (Foot τ sig)) (_ : Described ops ds) (_ : Ordered ds)
    (V : Valuation τ sig Val), Eqs (after ops V) ops
  | [], _, _, _, _ => by simp [Eqs]
  | op :: ops, _, .cons (b := d) (l₂ := ds) hd hds, hO, V => by
    obtain ⟨h1, h2, h3⟩ := hO
    rw [eqs_cons, after_cons]
    refine ⟨sat_of_agree (V := op.result V) (fun b hb => ?_) (hd.twice h1 V), eqs_after ops ds hds h3 _⟩
    obtain ⟨r, hr, rfl⟩ := hd.bufs b hb
    refine after_of_forall_not_mem ops _ ?_
    intro o ho hmem
    obtain ⟨e, he, hde⟩ : ∃ e ∈ ds, Describes o e := by
      clear h2 h3 hd h1
      induction hds with
      | nil => cases ho
      | cons hh _ ih =>
        rcases List.mem_cons.1 ho with rfl | ho
        · exact ⟨_, by simp, hh⟩
        · obtain ⟨e, he, hde⟩ := ih ho; exact ⟨e, by simp [he], hde⟩
    rw [hde.writes, Finset.mem_singleton] at hmem
    have : r = e.out := by_contra fun hne => devRef_ne_of_ne hne hmem
    exact h2 e he (this ▸ hr)

theorem described_append {l k : List (HloOp τ sig Val)} {ds es : List (Foot τ sig)} (h : Described l ds) (h' : Described k es) :
    Described (l ++ k) (ds ++ es) := List.rel_append h h'

theorem described_bufs {ops : List (HloOp τ sig Val)} {ds : List (Foot τ sig)} (h : Described ops ds) :
    ops.Forall fun op => op.bufs ⊆ tcRefs τ sig := by
  induction h with
  | nil => trivial
  | cons hd _ ih =>
    rw [List.forall_cons]
    refine ⟨fun b hb => ?_, ih⟩
    obtain ⟨r, _, rfl⟩ := hd.bufs b hb
    exact devRef_mem_tcRefs r

theorem described_fresh {ops : List (HloOp τ sig Val)} {ds : List (Foot τ sig)} (h : Described ops ds) :
    ∀ op ∈ ops, op.fresh = ∅ := by
  induction h with
  | nil => simp
  | cons hd _ ih => simp only [List.forall_mem_cons]; exact ⟨hd.fresh, ih⟩

/-- A buffer no operation writes ends as it began. -/
theorem after_unwritten {ops : List (HloOp τ sig Val)} {ds : List (Foot τ sig)} (h : Described ops ds) {r : Ref sig .tc}
    (hr : ∀ d ∈ ds, d.out ≠ r) (V : Valuation τ sig Val) : after ops V (Proc.devRef .tc r) = V (Proc.devRef .tc r) := by
  refine after_of_forall_not_mem ops _ ?_
  induction h with
  | nil => intro op h; cases h
  | cons hd _ ih =>
    rw [List.forall_mem_cons]
    refine ⟨?_, ih fun d hd => hr d (by simp [hd])⟩
    rw [hd.writes, Finset.mem_singleton]
    exact devRef_ne_of_ne (hr _ (by simp)).symm

end Cert.Line
-- ==== Proof.RefRun.lean ====
/-
  The reference program at the extended reals as one straight line of host operations: the counter cipher in its twenty
  rounds and five key steps, the uniform draw around it, the maximum, and @main. Then what a run of it leaves.
-/
module

public import proofs.«01_k».proof.Proof.Line
public import proofs.«01_k».proof.Proof.Gen.ReferenceIdeal
public import Idealize.ShloMosaic.PureOps.Ideal
public import Idealize.ShloMosaic.Lib.Quiescent

@[expose] public section

set_option maxRecDepth 16384

noncomputable section

namespace Cert.RefRun

open Idealize.ShloMosaic Idealize.ShloMosaic.StableHlo Idealize.SL.Sem Cert.Line Cert.ReferenceIdeal
open Cert.ReferenceIdeal.Facts₀ Cert.ReferenceIdeal.Facts

variable [Facts]

/-- A host operation of the reference. -/
abbrev Op := HloOp τ sig (Elt Ideal)
/-- A full-size buffer of 32-bit words. -/
abbrev Words := TRef sig ⟨S4096x32x100000, .i32⟩
/-- A single 32-bit word. -/
abbrev Word := TRef sig ⟨S_, .i32⟩

/-- @main's buffer `arg0`, with its type. -/
abbrev r_arg0 : TRef sig ⟨S32x100000, .f32⟩ := .of main_arg0
/-- @main's buffer `c`, with its type. -/
abbrev r_c : TRef sig ⟨S_, .i32⟩ := .of main_c
/-- @main's buffer `c_0`, with its type. -/
abbrev r_c_0 : TRef sig ⟨S_, .i32⟩ := .of main_c_0
/-- @main's buffer `c_1`, with its type. -/
abbrev r_c_1 : TRef sig ⟨S_, .i32⟩ := .of main_c_1
/-- @main's buffer `cst`, with its type. -/
abbrev r_cst : TRef sig ⟨S_, .f32⟩ := .of main_cst
/-- @main's buffer `cst_2`, with its type. -/
abbrev r_cst_2 : TRef sig ⟨S_, .f32⟩ := .of main_cst_2
/-- @main's buffer `cst_3`, with its type. -/
abbrev r_cst_3 : TRef sig ⟨S_, .f32⟩ := .of main_cst_3
/-- @main's buffer `cst_4`, with its type. -/
abbrev r_cst_4 : TRef sig ⟨S_, .f32⟩ := .of main_cst_4
/-- @main's buffer `v0`, with its type. -/
abbrev r_v0 : TRef sig ⟨S32, .f32⟩ := .of main_v0
/-- @main's buffer `v1`, with its type. -/
abbrev r_v1 : TRef sig ⟨S32x1, .f32⟩ := .of main_v1
/-- @main's buffer `v10`, with its type. -/
abbrev r_v10 : TRef sig ⟨S1, .i32⟩ := .of main_v10
/-- @main's buffer `v11`, with its type. -/
abbrev r_v11 : TRef sig ⟨S2, .i32⟩ := .of main_v11
/-- @main's buffer `v12`, with its type. -/
abbrev r_v12 : TRef sig ⟨S4096x32x100000, .f32⟩ := .of main_v12
/-- @main's buffer `v13`, with its type. -/
abbrev r_v13 : TRef sig ⟨S4096x32x100000, .f32⟩ := .of main_v13
/-- @main's buffer `v14`, with its type. -/
abbrev r_v14 : TRef sig ⟨S4096x32x100000, .f32⟩ := .of main_v14
/-- @main's buffer `v15`, with its type. -/
abbrev r_v15 : TRef sig ⟨S4096x32x100000, .f32⟩ := .of main_v15
/-- @main's buffer `v16`, with its type. -/
abbrev r_v16 : TRef sig ⟨S4096x32x100000, .f32⟩ := .of main_v16
/-- @main's buffer `v17`, with its type. -/
abbrev r_v17 : TRef sig ⟨S4096x32x100000, .f32⟩ := .of main_v17
/-- @main's buffer `v18`, with its type. -/
abbrev r_v18 : TRef sig ⟨S4096x32x100000, .f32⟩ := .of main_v18
/-- @main's buffer `v19`, with its type. -/
abbrev r_v19 : TRef sig ⟨S1x32x100000, .f32⟩ := .of main_v19
/-- @main's buffer `v2`, with its type. -/
abbrev r_v2 : TRef sig ⟨S32x100000, .f32⟩ := .of main_v2
/-- @main's buffer `v20`, with its type. -/
abbrev r_v20 : TRef sig ⟨S4096x32x100000, .f32⟩ := .of main_v20
/-- @main's buffer `v21`, with its type. -/
abbrev r_v21 : TRef sig ⟨S4096x32x100000, .f32⟩ := .of main_v21
/-- @main's buffer `v3`, with its type. -/
abbrev r_v3 : TRef sig ⟨S32x100000, .f32⟩ := .of main_v3
/-- @main's buffer `v4`, with its type. -/
abbrev r_v4 : TRef sig ⟨S32x100000, .f32⟩ := .of main_v4
/-- @main's buffer `v5`, with its type. -/
abbrev r_v5 : TRef sig ⟨S_, .i32⟩ := .of main_v5
/-- @main's buffer `v6`, with its type. -/
abbrev r_v6 : TRef sig ⟨S_, .i32⟩ := .of main_v6
/-- @main's buffer `v7`, with its type. -/
abbrev r_v7 : TRef sig ⟨S1, .i32⟩ := .of main_v7
/-- @main's buffer `v8`, with its type. -/
abbrev r_v8 : TRef sig ⟨S_, .i32⟩ := .of main_v8
/-- @main's buffer `v9`, with its type. -/
abbrev r_v9 : TRef sig ⟨S_, .i32⟩ := .of main_v9

/-- One round of the cipher: add, rotate the second word by `k` (`k'` is 32 − `k`), exclusive or. -/
def roundOps (x0 x1 s : Words) (c : Word) (b l : Words) (c' : Word) (b' r o y : Words) (k k' : BitVec 32) : List Op :=
  [ TRef.binary x0 x1 s addi
  , TRef.nullary c (constantI S_ 32 k)
  , TRef.unary c b (broadcastInDim S4096x32x100000 ![] bcast_S_S4096x32x100000)
  , TRef.binary x1 b l Host.shli
  , TRef.nullary c' (constantI S_ 32 k')
  , TRef.unary c' b' (broadcastInDim S4096x32x100000 ![] bcast_S_S4096x32x100000)
  , TRef.binary x1 b' r Host.shrui
  , TRef.binary l r o ori
  , TRef.binary s o y xori ]

/-- One key step of the cipher: a key word to each half, and the step's number to the second. -/
def keyOps (x0 x1 : Words) (ka : Word) (bka y0 : Words) (kb : Word) (bkb t : Words) (c : Word) (b y1 : Words)
    (n : BitVec 32) : List Op :=
  [ TRef.unary ka bka (broadcastInDim S4096x32x100000 ![] bcast_S_S4096x32x100000)
  , TRef.binary x0 bka y0 addi
  , TRef.unary kb bkb (broadcastInDim S4096x32x100000 ![] bcast_S_S4096x32x100000)
  , TRef.binary x1 bkb t addi
  , TRef.nullary c (constantI S_ 32 n)
  , TRef.unary c b (broadcastInDim S4096x32x100000 ![] bcast_S_S4096x32x100000)
  , TRef.binary t b y1 addi ]

/-- The cipher's opening: the third key word, and the first two added to the halves. -/
def openOps (arg0 arg1 : Word) (arg2 arg3 : Words) (φ : fn_threefry2x32.Bufs) : List Op :=
  [ TRef.binary arg0 arg1 φ.v0 xori
  , TRef.nullary φ.c (constantI S_ 32 466688986#32)
  , TRef.binary φ.v0 φ.c φ.v1 xori
  , TRef.unary arg0 φ.v2 (broadcastInDim S4096x32x100000 ![] bcast_S_S4096x32x100000)
  , TRef.binary arg2 φ.v2 φ.v3 addi
  , TRef.unary arg1 φ.v4 (broadcastInDim S4096x32x100000 ![] bcast_S_S4096x32x100000)
  , TRef.binary arg3 φ.v4 φ.v5 addi ]

/-- The cipher's rounds and key steps. -/
def cipherOps (arg0 arg1 : Word) (φ : fn_threefry2x32.Bufs) : List Op :=
  roundOps φ.v3 φ.v5 φ.v6 φ.c_0 φ.v7 φ.v8 φ.c_1 φ.v9 φ.v10 φ.v11 φ.v12 13#32 19#32
  ++ roundOps φ.v6 φ.v12 φ.v13 φ.c_2 φ.v14 φ.v15 φ.c_3 φ.v16 φ.v17 φ.v18 φ.v19 15#32 17#32
  ++ roundOps φ.v13 φ.v19 φ.v20 φ.c_4 φ.v21 φ.v22 φ.c_5 φ.v23 φ.v24 φ.v25 φ.v26 26#32 6#32
  ++ roundOps φ.v20 φ.v26 φ.v27 φ.c_6 φ.v28 φ.v29 φ.c_7 φ.v30 φ.v31 φ.v32 φ.v33 6#32 26#32
  ++ keyOps φ.v27 φ.v33 arg1 φ.v34 φ.v35 φ.v1 φ.v36 φ.v37 φ.c_8 φ.v38 φ.v39 1#32
  ++ roundOps φ.v35 φ.v39 φ.v40 φ.c_9 φ.v41 φ.v42 φ.c_10 φ.v43 φ.v44 φ.v45 φ.v46 17#32 15#32
  ++ roundOps φ.v40 φ.v46 φ.v47 φ.c_11 φ.v48 φ.v49 φ.c_12 φ.v50 φ.v51 φ.v52 φ.v53 29#32 3#32
  ++ roundOps φ.v47 φ.v53 φ.v54 φ.c_13 φ.v55 φ.v56 φ.c_14 φ.v57 φ.v58 φ.v59 φ.v60 16#32 16#32
  ++ roundOps φ.v54 φ.v60 φ.v61 φ.c_15 φ.v62 φ.v63 φ.c_16 φ.v64 φ.v65 φ.v66 φ.v67 24#32 8#32
  ++ keyOps φ.v61 φ.v67 φ.v1 φ.v68 φ.v69 arg0 φ.v70 φ.v71 φ.c_17 φ.v72 φ.v73 2#32
  ++ roundOps φ.v69 φ.v73 φ.v74 φ.c_18 φ.v75 φ.v76 φ.c_19 φ.v77 φ.v78 φ.v79 φ.v80 13#32 19#32
  ++ roundOps φ.v74 φ.v80 φ.v81 φ.c_20 φ.v82 φ.v83 φ.c_21 φ.v84 φ.v85 φ.v86 φ.v87 15#32 17#32
  ++ roundOps φ.v81 φ.v87 φ.v88 φ.c_22 φ.v89 φ.v90 φ.c_23 φ.v91 φ.v92 φ.v93 φ.v94 26#32 6#32
  ++ roundOps φ.v88 φ.v94 φ.v95 φ.c_24 φ.v96 φ.v97 φ.c_25 φ.v98 φ.v99 φ.v100 φ.v101 6#32 26#32
  ++ keyOps φ.v95 φ.v101 arg0 φ.v102 φ.v103 arg1 φ.v104 φ.v105 φ.c_26 φ.v106 φ.v107 3#32
  ++ roundOps φ.v103 φ.v107 φ.v108 φ.c_27 φ.v109 φ.v110 φ.c_28 φ.v111 φ.v112 φ.v113 φ.v114 17#32 15#32
  ++ roundOps φ.v108 φ.v114 φ.v115 φ.c_29 φ.v116 φ.v117 φ.c_30 φ.v118 φ.v119 φ.v120 φ.v121 29#32 3#32
  ++ roundOps φ.v115 φ.v121 φ.v122 φ.c_31 φ.v123 φ.v124 φ.c_32 φ.v125 φ.v126 φ.v127 φ.v128 16#32 16#32
  ++ roundOps φ.v122 φ.v128 φ.v129 φ.c_33 φ.v130 φ.v131 φ.c_34 φ.v132 φ.v133 φ.v134 φ.v135 24#32 8#32
  ++ keyOps φ.v129 φ.v135 arg1 φ.v136 φ.v137 φ.v1 φ.v138 φ.v139 φ.c_35 φ.v140 φ.v141 4#32
  ++ roundOps φ.v137 φ.v141 φ.v142 φ.c_36 φ.v143 φ.v144 φ.c_37 φ.v145 φ.v146 φ.v147 φ.v148 13#32 19#32
  ++ roundOps φ.v142 φ.v148 φ.v149 φ.c_38 φ.v150 φ.v151 φ.c_39 φ.v152 φ.v153 φ.v154 φ.v155 15#32 17#32
  ++ roundOps φ.v149 φ.v155 φ.v156 φ.c_40 φ.v157 φ.v158 φ.c_41 φ.v159 φ.v160 φ.v161 φ.v162 26#32 6#32
  ++ roundOps φ.v156 φ.v162 φ.v163 φ.c_42 φ.v164 φ.v165 φ.c_43 φ.v166 φ.v167 φ.v168 φ.v169 6#32 26#32
  ++ keyOps φ.v163 φ.v169 φ.v1 φ.v170 φ.v171 arg0 φ.v172 φ.v173 φ.c_44 φ.v174 φ.v175 5#32

/-- The whole cipher. -/
def threefryOps (arg0 arg1 : Word) (arg2 arg3 : Words) (φ : fn_threefry2x32.Bufs) : List Op :=
  openOps arg0 arg1 arg2 arg3 φ ++ cipherOps arg0 arg1 φ

/-- The uniform draw before the cipher: the two key words and the two halves of the 64-bit position. -/
def counterOps (arg0 : TRef sig ⟨S2, .i32⟩) (arg1 arg2 : TRef sig ⟨S_, .f32⟩) (φ : fn_uniform.Bufs) : List Op :=
  [ TRef.unary arg1 φ.v0 id
  , TRef.unary arg2 φ.v1 id
  , TRef.unary φ.v0 φ.v2 (broadcastInDim S1x1x1 ![] bcast_S_S1x1x1)
  , TRef.unary φ.v1 φ.v3 (broadcastInDim S1x1x1 ![] bcast_S_S1x1x1)
  , TRef.unary arg0 φ.v4 (extractStridedSlice S1 ![0] · slices_S2_S1_0)
  , TRef.reshape φ.v4 φ.v5 (rfl : (.i32 : EltTy) = .i32) shapeCasts_S1_S_
  , TRef.unary arg0 φ.v6 (extractStridedSlice S1 ![1] · slices_S2_S1_1)
  , TRef.reshape φ.v6 φ.v7 (rfl : (.i32 : EltTy) = .i32) shapeCasts_S1_S_
  , TRef.nullary φ.v8 (iotaInDim S4096x32x100000 64 0)
  , TRef.nullary φ.v9 (iotaInDim S4096x32x100000 64 1)
  , TRef.nullary φ.v10 (iotaInDim S4096x32x100000 64 2)
  , TRef.nullary φ.c (constantI S_ 64 3200000#64)
  , TRef.unary φ.c φ.v11 (broadcastInDim S4096x32x100000 ![] bcast_S_S4096x32x100000)
  , TRef.binary φ.v11 φ.v8 φ.v12 muli
  , TRef.nullary φ.c_0 (constantI S_ 64 100000#64)
  , TRef.unary φ.c_0 φ.v13 (broadcastInDim S4096x32x100000 ![] bcast_S_S4096x32x100000)
  , TRef.binary φ.v13 φ.v9 φ.v14 muli
  , TRef.nullary φ.c_1 (constantI S_ 64 1#64)
  , TRef.unary φ.c_1 φ.v15 (broadcastInDim S4096x32x100000 ![] bcast_S_S4096x32x100000)
  , TRef.binary φ.v15 φ.v10 φ.v16 muli
  , TRef.binary φ.v12 φ.v14 φ.v17 addi
  , TRef.binary φ.v17 φ.v16 φ.v18 addi
  , TRef.nullary φ.c_2 (constantI S_ 64 32#64)
  , TRef.unary φ.c_2 φ.v19 (broadcastInDim S4096x32x100000 ![] bcast_S_S4096x32x100000)
  , TRef.binary φ.v18 φ.v19 φ.v20 Host.shrui
  , TRef.unary φ.v18 φ.v21 (trunci 32 · natLt_32_64)
  , TRef.unary φ.v20 φ.v22 (trunci 32 · natLt_32_64) ]

/-- The uniform draw after the cipher: the word's top 23 bits as a fraction in [0, 1). -/
def fractionOps (φ : fn_uniform.Bufs) : List Op :=
  [ TRef.binary φ.call0.v171 φ.call0.v175 φ.v24 xori
  , TRef.nullary φ.c_3 (constantI S_ 32 9#32)
  , TRef.unary φ.c_3 φ.v25 (broadcastInDim S4096x32x100000 ![] bcast_S_S4096x32x100000)
  , TRef.binary φ.v24 φ.v25 φ.v26 Host.shrui
  , TRef.nullary φ.c_4 (constantI S_ 32 1065353216#32)
  , TRef.unary φ.c_4 φ.v27 (broadcastInDim S4096x32x100000 ![] bcast_S_S4096x32x100000)
  , TRef.binary φ.v26 φ.v27 φ.v28 ori
  , TRef.unary φ.v28 φ.v29 (bitcastToFloat (F := Ideal) .f32)
  , TRef.nullary φ.cst (constant (F := Ideal) S_ .f32 0x3F800000#32)
  , TRef.unary φ.cst φ.v30 (broadcastInDim S4096x32x100000 ![] bcast_S_S4096x32x100000)
  , TRef.binary φ.v29 φ.v30 φ.v31 (subf (F := Ideal) (φ := .f32))
  , TRef.binary φ.v3 φ.v2 φ.v32 (subf (F := Ideal) (φ := .f32))
  , TRef.unary φ.v32 φ.v33 (broadcastInDim S4096x32x100000 ![0, 1, 2] bcast_S1x1x1_S4096x32x100000_0_1_2)
  , TRef.binary φ.v31 φ.v33 φ.v34 (mulf (F := Ideal) (φ := .f32))
  , TRef.unary φ.v2 φ.v35 (broadcastInDim S4096x32x100000 ![0, 1, 2] bcast_S1x1x1_S4096x32x100000_0_1_2)
  , TRef.binary φ.v34 φ.v35 φ.v36 (addf (F := Ideal) (φ := .f32))
  , TRef.unary φ.v2 φ.v37 (broadcastInDim S4096x32x100000 ![0, 1, 2] bcast_S1x1x1_S4096x32x100000_0_1_2)
  , TRef.binary φ.v37 φ.v36 φ.v38 (maximumf (F := Ideal) (φ := .f32)) ]

/-- The maximum: the position of the largest entry of each row. -/
def argmaxOps (arg0 : TRef sig ⟨S4096x32x100000, .f32⟩) (φ : fn_argmax.Bufs) : List Op :=
  [ TRef.nullary φ.v0 (iotaInDim S4096x32x100000 32 2)
  , TRef.nullary φ.cst (constant (F := Ideal) S_ .f32 0xFF800000#32)
  , TRef.nullary φ.c (constantI S_ 32 0#32)
  , TRef.quaternary arg0 φ.v0 φ.cst φ.c φ.v1_0 (fun (x : FVec Ideal S4096x32x100000 .f32) (y : IVec S4096x32x100000 32) (u : FVec Ideal S_ .f32) (v : IVec S_ 32) j => (Host.argReduce (reducer_argmax_f32_i32 (F := Ideal)) x y u v reducesTo_S4096x32x100000_S4096x32_d2 h_S_ j).1)
  , TRef.quaternary arg0 φ.v0 φ.cst φ.c φ.v1_1 (fun (x : FVec Ideal S4096x32x100000 .f32) (y : IVec S4096x32x100000 32) (u : FVec Ideal S_ .f32) (v : IVec S_ 32) j => (Host.argReduce (reducer_argmax_f32_i32 (F := Ideal)) x y u v reducesTo_S4096x32x100000_S4096x32_d2 h_S_ j).2) ]

/-- @main before the draw: the log-weights and the key. -/
def logitOps : List Op :=
  [ TRef.nullary r_cst (constant (F := Ideal) S_ .f32 0x00000000#32)
  , TRef.binary r_arg0 r_cst r_v0 ((fun x v => Host.reduceAdd (F := Ideal) (φ := .f32) x v reducesTo_S32x100000_S32_d1 h_S_))
  , TRef.unary r_v0 r_v1 (broadcastInDim S32x1 ![0] bcast_S32_S32x1_0)
  , TRef.unary r_v1 r_v2 (broadcastInDim S32x100000 ![0, 1] bcast_S32x1_S32x100000_0_1)
  , TRef.binary r_arg0 r_v2 r_v3 (Host.divf (F := Ideal) (φ := .f32))
  , TRef.unary r_v3 r_v4 (Host.log (F := Ideal) (φ := .f32))
  , TRef.nullary r_c (constantI S_ 32 42#32)
  , TRef.nullary r_c_0 (constantI S_ 32 32#32)
  , TRef.binary r_c r_c_0 r_v5 (Host.shrui)
  , TRef.unary r_v5 r_v6 (id)
  , TRef.unary r_v6 r_v7 (broadcastInDim S1 ![] bcast_S_S1)
  , TRef.nullary r_c_1 (constantI S_ 32 4294967295#32)
  , TRef.binary r_c r_c_1 r_v8 (andi)
  , TRef.unary r_v8 r_v9 (id)
  , TRef.unary r_v9 r_v10 (broadcastInDim S1 ![] bcast_S_S1)
  , TRef.binary r_v7 r_v10 r_v11 ((fun a b => concatenate S2 0 [⟨S1, a⟩, ⟨S1, b⟩] concatenates_S1_S1_S2_d0))
  , TRef.nullary r_cst_2 (constant (F := Ideal) S_ .f32 0x00000000#32)
  , TRef.nullary r_cst_3 (constant (F := Ideal) S_ .f32 0x3F800000#32) ]

/-- @main between the draw and the maximum: the perturbed log-weights. -/
def perturbOps : List Op :=
  [ TRef.nullary r_cst_4 (constant (F := Ideal) S_ .f32 0x00800000#32)
  , TRef.unary r_cst_4 r_v13 (broadcastInDim S4096x32x100000 ![] bcast_S_S4096x32x100000)
  , TRef.binary r_v12 r_v13 r_v14 (maximumf (F := Ideal) (φ := .f32))
  , TRef.unary r_v14 r_v15 (Host.log (F := Ideal) (φ := .f32))
  , TRef.unary r_v15 r_v16 (Host.negf (F := Ideal) (φ := .f32))
  , TRef.unary r_v16 r_v17 (Host.log (F := Ideal) (φ := .f32))
  , TRef.unary r_v17 r_v18 (Host.negf (F := Ideal) (φ := .f32))
  , TRef.unary r_v4 r_v19 (broadcastInDim S1x32x100000 ![1, 2] bcast_S32x100000_S1x32x100000_1_2)
  , TRef.unary r_v19 r_v20 (broadcastInDim S4096x32x100000 ![0, 1, 2] bcast_S1x32x100000_S4096x32x100000_0_1_2)
  , TRef.binary r_v18 r_v20 r_v21 (addf (F := Ideal) (φ := .f32)) ]

/-- The whole reference. -/
def refOps : List Op :=
  logitOps ++ counterOps r_v11 r_cst_2 r_cst_3 main_call0
  ++ threefryOps main_call0.v5 main_call0.v7 main_call0.v22 main_call0.v21 main_call0.call0
  ++ fractionOps main_call0 ++ perturbOps ++ argmaxOps r_v21 main_call1

theorem isSeq_of_eq {p : Prog (TpuEff nD τ sig (Elt Ideal) (Pipeline.Sig Λ₀ (Fin 0) fun q => (pcfgs (F := Ideal) q).Adm) .tc) PUnit}
    {l k : List Op} (h : IsSeq p l) (e : l = k) : IsSeq p k := e ▸ h

theorem cons_step {a b : Op} {l k : List Op} (h : l = k) (e : a = b) : a :: l = b :: k := by rw [h, e]

set_option maxHeartbeats 2000000 in
/-- The cipher is the straight line of its operations. -/
theorem threefry_isSeq (arg0 arg1 : Word) (arg2 arg3 : Words) (φ : fn_threefry2x32.Bufs) :
    IsSeq (fn_threefry2x32.body (F := Ideal) arg0 arg1 arg2 arg3 φ) (threefryOps arg0 arg1 arg2 arg3 φ) := by
  unfold fn_threefry2x32.body
  apply isSeq_of_eq (isSeq_append ?h0 (isSeq_append ?h1 (isSeq_append ?h2 ?h3)))
  case h0 => unfold fn_threefry2x32.body_part0; iterate 59 apply IsSeq.cons
             exact isSeq_single _
  case h1 => unfold fn_threefry2x32.body_part1; iterate 59 apply IsSeq.cons
             exact isSeq_single _
  case h2 => unfold fn_threefry2x32.body_part2; iterate 59 apply IsSeq.cons
             exact isSeq_single _
  case h3 => unfold fn_threefry2x32.body_part3; iterate 42 apply IsSeq.cons
             exact IsSeq.nil
  unfold threefryOps openOps cipherOps roundOps keyOps
  simp only [List.cons_append, List.nil_append, List.append_assoc]
  repeat refine cons_step ?_ rfl

/-- The draw is the straight line of its operations. -/
theorem uniform_isSeq (arg0 : TRef sig ⟨S2, .i32⟩) (arg1 arg2 : TRef sig ⟨S_, .f32⟩) (φ : fn_uniform.Bufs) :
    IsSeq (fn_uniform.body (F := Ideal) arg0 arg1 arg2 φ)
      (counterOps arg0 arg1 arg2 φ ++ (threefryOps φ.v5 φ.v7 φ.v22 φ.v21 φ.call0 ++ fractionOps φ)) := by
  unfold fn_uniform.body
  apply isSeq_of_eq
  · iterate 27 apply IsSeq.cons
    apply isSeq_append (threefry_isSeq ..)
    repeat (first | exact IsSeq.nil | apply IsSeq.cons)
  · generalize threefryOps φ.v5 φ.v7 φ.v22 φ.v21 φ.call0 = t
    unfold counterOps fractionOps
    simp only [List.cons_append, List.nil_append]
    repeat refine cons_step ?_ rfl

/-- The maximum is the straight line of its operations. -/
theorem argmax_isSeq (arg0 : TRef sig ⟨S4096x32x100000, .f32⟩) (φ : fn_argmax.Bufs) :
    IsSeq (fn_argmax.body (F := Ideal) arg0 φ) (argmaxOps arg0 φ) := by
  unfold fn_argmax.body
  repeat (first | exact IsSeq.nil | apply IsSeq.cons)

/-- @main is the straight line of its operations. -/
theorem main_isSeq (c : Dev nD) : IsSeq (main (F := Ideal) c) refOps := by
  unfold main
  apply isSeq_of_eq
  · iterate 18 apply IsSeq.cons
    apply isSeq_append (uniform_isSeq ..)
    iterate 10 apply IsSeq.cons
    apply isSeq_append (argmax_isSeq ..)
    exact IsSeq.nil
  · unfold refOps
    simp only [List.append_assoc, List.append_nil]
    generalize threefryOps main_call0.v5 main_call0.v7 main_call0.v22 main_call0.v21 main_call0.call0 = t
    generalize counterOps r_v11 r_cst_2 r_cst_3 main_call0 = u
    generalize fractionOps main_call0 = w
    generalize argmaxOps r_v21 main_call1 = x
    unfold logitOps perturbOps
    simp only [List.cons_append, List.nil_append]
    iterate 18 refine cons_step ?_ rfl
    refine congrArg (u ++ ·) (congrArg (t ++ ·) (congrArg (w ++ ·) ?_))
    iterate 10 refine cons_step ?_ rfl
    rfl

/-- A buffer's number, which tells the reference's buffers apart. -/
def number (r : Ref sig .tc) : ℕ := r.idx.val

/-- What each operation of the reference writes and reads. -/
theorem described : ∃ ds, Described refOps ds ∧ orderedBy number ds = true ∧ ∀ d ∈ ds, d.out ≠ main_arg0 := by
  apply Exists.intro
  apply And.intro
  · unfold refOps logitOps counterOps threefryOps openOps cipherOps roundOps keyOps fractionOps perturbOps argmaxOps
    simp only [List.cons_append, List.nil_append, List.append_assoc]
    unfold Described
    repeat (first
      | exact List.Forall₂.nil
      | apply List.Forall₂.cons (describes_nullary ..)
      | apply List.Forall₂.cons (describes_unary ..)
      | apply List.Forall₂.cons (describes_binary ..)
      | apply List.Forall₂.cons (describes_reshape ..)
      | apply List.Forall₂.cons (describes_quaternary ..))
  · refine ⟨?_, ?_⟩
    · rfl
    · decide +kernel

end Cert.RefRun
-- ==== Proof.RefEnd.lean ====
/-
  What a run of the reference leaves: the result buffer as the line of operations computes it, the argument as launched, and
  every operation's equation true of the contents at the end.
-/
module

public import proofs.«01_k».proof.Proof.RefRun

@[expose] public section

set_option maxRecDepth 16384

noncomputable section

namespace Cert.RefRun

open Idealize.ShloMosaic Idealize.ShloMosaic.StableHlo Idealize.SL.Sem Cert.Line Cert.ReferenceIdeal

variable [Facts]

/-- The contents of device `c`'s buffers after the reference, launched from `m`. -/
def fin (m : (ℓ : Loc nD τ sig) → Buf (Elt Ideal) ℓ) (c : Dev nD) : Valuation τ sig (Elt Ideal) :=
  after refOps (launchContents m c)

/-- Every operation's equation holds at the end. -/
theorem fin_eqs (m : (ℓ : Loc nD τ sig) → Buf (Elt Ideal) ℓ) (c : Dev nD) : Eqs (fin m c) refOps := by
  obtain ⟨ds, hd, ho, -⟩ := described
  exact eqs_after _ ds hd (ordered_of_by number ds ho) _

/-- The argument ends as launched. -/
theorem fin_arg0 (m : (ℓ : Loc nD τ sig) → Buf (Elt Ideal) ℓ) (c : Dev nD) :
    fin m c (Proc.devRef .tc main_arg0) = m ((c.tc : Thread nD τ).loc main_arg0) := by
  obtain ⟨ds, hd, -, hn⟩ := described
  exact after_unwritten hd hn _

/-- THE RUN of the reference: it ends with the result as computed, the argument as launched and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v22) = fin m c (Proc.devRef .tc main_v22)
        ∧ r.2.mem ((c.tc : Thread nD τ).loc main_arg0) = m ((c.tc : Thread nD τ).loc main_arg0))
      ∧ r.2.sem = fun _ => 0 := by
  obtain ⟨ds, hd, -, -⟩ := described
  refine (θ_run _ _ _).mono (fun r h => ⟨fun c => ⟨h c main_v22, ?_⟩, sem_eq_zero_of_no_sems (by decide) _⟩)
    (run_hlo defs main main_isSeq (by decide +kernel) (by decide +kernel) (described_bufs hd) (described_fresh hd) m ρ)
  exact (h c main_arg0).trans (fin_arg0 m c)

end Cert.RefRun
-- ==== Proof.Rng.lean ====
/-
  The random numbers, one at a time: the counter cipher on a pair of 32-bit words, the two halves of a position as the
  kernel carries them, and the exponential draw, which over the extended reals is a positive real number.
-/
module

public import Idealize.ShloMosaic.PureOps.Ideal
public import Idealize.ShloMosaic.Lib.IdealHost

@[expose] public section

noncomputable section

namespace Cert.Rng

open Idealize.ShloMosaic

/-- A 32-bit word. -/
abbrev W := BitVec 32

/-! ## The cipher -/

/-- One round: add, rotate the second word left by `k` (`k'` is 32 − `k`), exclusive or. -/
def round (k k' : W) (s : W × W) : W × W := (s.1 + s.2, (s.1 + s.2) ^^^ ((s.2 <<< k.toNat) ||| (s.2 >>> k'.toNat)))

/-- One key step: `a` to the first word, `b` and the step's number `n` to the second. -/
def inject (a b n : W) (s : W × W) : W × W := (s.1 + a, s.2 + b + n)

/-- The cipher of the pair `s` under the key words `a`, `b`, `c`. -/
def cipher (a b c : W) (s : W × W) : W × W :=
  (s.1 + a, s.2 + b)
  |> round 13#32 19#32 |> round 15#32 17#32 |> round 26#32 6#32 |> round 6#32 26#32 |> inject b c 1#32
  |> round 17#32 15#32 |> round 29#32 3#32 |> round 16#32 16#32 |> round 24#32 8#32 |> inject c a 2#32
  |> round 13#32 19#32 |> round 15#32 17#32 |> round 26#32 6#32 |> round 6#32 26#32 |> inject a b 3#32
  |> round 17#32 15#32 |> round 29#32 3#32 |> round 16#32 16#32 |> round 24#32 8#32 |> inject b c 4#32
  |> round 13#32 19#32 |> round 15#32 17#32 |> round 26#32 6#32 |> round 6#32 26#32 |> inject c a 5#32

/-- The random word of a position given as two halves: the cipher under the key (0, 42), its halves combined. -/
def word (hi lo : W) : W :=
  (cipher 0#32 42#32 466689008#32 (hi, lo)).1 ^^^ (cipher 0#32 42#32 466689008#32 (hi, lo)).2

/-- The random word of position `n`. -/
def wordAt (n : ℕ) : W := word (BitVec.ofNat 32 (n / 2 ^ 32)) (BitVec.ofNat 32 n)

/-! ## The position, carried in two halves -/

/-- Adding to the low half: the carry is told by the low half having become smaller. -/
theorem carry {n d : ℕ} (hd : d < 2 ^ 32) (hn : n < 2 ^ 60) :
    BitVec.ofNat 32 (n / 2 ^ 32)
        + BitVec.setWidth 32 (BitVec.ofBool (BitVec.ult (BitVec.ofNat 32 n + BitVec.ofNat 32 d) (BitVec.ofNat 32 n)))
      = BitVec.ofNat 32 ((n + d) / 2 ^ 32)
    ∧ BitVec.ofNat 32 n + BitVec.ofNat 32 d = BitVec.ofNat 32 (n + d) := by
  have h2 : BitVec.ofNat 32 n + BitVec.ofNat 32 d = BitVec.ofNat 32 (n + d) := by
    apply BitVec.eq_of_toNat_eq; simp [BitVec.toNat_add]
  refine ⟨?_, h2⟩
  rw [h2]
  apply BitVec.eq_of_toNat_eq
  by_cases h : (n + d) % 2 ^ 32 < n % 2 ^ 32
  · have : BitVec.ult (BitVec.ofNat 32 (n + d)) (BitVec.ofNat 32 n) = true := by
      simp only [BitVec.ult, BitVec.toNat_ofNat, decide_eq_true_eq]; exact h
    rw [this, show BitVec.setWidth 32 (BitVec.ofBool true) = 1#32 by decide]
    simp only [BitVec.toNat_add, BitVec.toNat_ofNat]
    omega
  · have : BitVec.ult (BitVec.ofNat 32 (n + d)) (BitVec.ofNat 32 n) = false := by
      simp only [BitVec.ult, BitVec.toNat_ofNat, decide_eq_false_iff_not]; exact h
    rw [this, show BitVec.setWidth 32 (BitVec.ofBool false) = 0#32 by decide]
    simp only [BitVec.toNat_add, BitVec.toNat_ofNat]
    omega

/-- `32 · q` in two halves is `q` shifted right by 27 and left by 5. -/
theorem halves {q : ℕ} (hq : q < 2 ^ 32) :
    BitVec.ofNat 32 q >>> 27 = BitVec.ofNat 32 (32 * q / 2 ^ 32) ∧ BitVec.ofNat 32 q <<< 5 = BitVec.ofNat 32 (32 * q) := by
  constructor <;> apply BitVec.eq_of_toNat_eq
  · simp only [BitVec.toNat_ushiftRight, BitVec.toNat_ofNat, Nat.shiftRight_eq_div_pow]; omega
  · simp only [BitVec.toNat_shiftLeft, BitVec.toNat_ofNat, Nat.shiftLeft_eq]; omega

/-! ## The exponential draw -/

/-- The bit pattern with the word's top 23 bits as the fraction of a number in [1, 2). -/
def pattern (w : W) : W := (w >>> 9) ||| 1065353216#32

/-- The draw of word `w`: minus the logarithm of the uniform number, itself kept from zero. -/
def expo (w : W) : EReal :=
  -Ideal.log (max (Ideal.ofBits .f32 (pattern w) - 1) (Ideal.ofBits .f32 8388608#32))

/-- The pattern stands for a real number in [1, 2). -/
theorem ofBits_pattern (w : W) : ∃ r : ℝ, 1 ≤ r ∧ r < 2 ∧ Ideal.ofBits .f32 (pattern w) = (r : EReal) := by
  have hneg : (pattern w).extractLsb' 31 1 = 0#1 := by
    unfold pattern; ext i hi; simp at hi; subst hi
    simp [BitVec.getLsbD_or, BitVec.getElem_extractLsb']
  have hex : (pattern w).extractLsb' 23 8 = 127#8 := by
    unfold pattern
    ext i hi
    simp only [BitVec.getElem_extractLsb', BitVec.getLsbD_or, BitVec.getLsbD_ushiftRight]
    have : w.getLsbD (9 + (23 + i)) = false := BitVec.getLsbD_of_ge _ _ (by omega)
    rw [this, Bool.false_or]
    clear this
    revert i; decide
  set t : ℕ := ((pattern w).extractLsb' 0 23).toNat with ht
  have htl : t < 2 ^ 23 := ((pattern w).extractLsb' 0 23).isLt
  refine ⟨(2 ^ 23 + t : ℕ) * (2 : ℝ) ^ (-23 : ℤ), ?_, ?_, ?_⟩
  · have : (2 : ℝ) ^ (-23 : ℤ) = 1 / 8388608 := by norm_num
    rw [this]; push_cast
    have : (0 : ℝ) ≤ t := by positivity
    linarith
  · have : (2 : ℝ) ^ (-23 : ℤ) = 1 / 8388608 := by norm_num
    rw [this]; push_cast
    have : (t : ℝ) < 2 ^ 23 := by exact_mod_cast htl
    linarith
  · show Ideal.ieee 8 23 (pattern w) = _
    unfold Ideal.ieee
    simp only [hneg, hex, ← ht]
    norm_num

/-- The smallest normal number stands for a positive real below one. -/
theorem ofBits_tiny : ∃ r : ℝ, 0 < r ∧ r < 1 ∧ Ideal.ofBits .f32 8388608#32 = (r : EReal) := by
  refine ⟨(2 : ℝ) ^ (-126 : ℤ), by positivity, ?_, ?_⟩
  · exact zpow_lt_one_of_neg₀ (by norm_num) (by norm_num)
  · simp [Ideal.ofBits, Ideal.ieee, -EReal.coe_mul]
    rw [show (8388608 : ℝ) = 2 ^ (23 : ℤ) by norm_num]
    norm_num

/-- THE DRAW IS A POSITIVE REAL. -/
theorem expo_pos (w : W) : ∃ r : ℝ, 0 < r ∧ expo w = (r : EReal) := by
  obtain ⟨f, hf1, hf2, hf⟩ := ofBits_pattern w
  obtain ⟨t, ht0, ht1, ht⟩ := ofBits_tiny
  refine ⟨-Real.log (max (f - 1) t), ?_, ?_⟩
  · have h0 : 0 < max (f - 1) t := lt_max_of_lt_right ht0
    have h1 : max (f - 1) t < 1 := max_lt (by linarith) ht1
    linarith [Real.log_neg h0 h1]
  · unfold expo
    rw [hf, ht, show ((f : EReal) - 1) = ((f - 1 : ℝ) : EReal) by push_cast; rfl, ← EReal.coe_strictMono.monotone.map_max]
    have h0 : ¬ max (f - 1) t ≤ 0 := not_le.2 (lt_max_of_lt_right ht0)
    show -(if max (f - 1) t ≤ 0 then (⊥ : EReal) else (Real.log (max (f - 1) t) : EReal)) = _
    rw [if_neg h0, EReal.coe_neg]

end Cert.Rng
-- ==== Proof.KernelWords.lean ====
/-
  The kernel's random words: in each of its four loops a trip computes the cipher's word at every place of the tile.
-/
module

public import proofs.«01_k».proof.Proof.Gen.KernelIdeal.Skeleton
public import proofs.«01_k».proof.Proof.Rng
public import Idealize.ShloMosaic.Lib.IdealHost

@[expose] public section

set_option maxRecDepth 16384

noncomputable section

namespace Cert.KernelValue

open Idealize.ShloMosaic Cert.KernelIdeal Cert.KernelIdeal.Gen

/-- A tile of words. -/
abbrev Words := IVec S8x2048 32

theorem shl_vec (x k : BitVec 32) (h : k.toNat < 32) : IntOp.shli .vector x k = x <<< k.toNat := if_pos h
theorem shr_vec (x k : BitVec 32) (h : k.toNat < 32) : IntOp.shrui .vector x k = x >>> k.toNat := if_pos h

/-- The random words a trip computes, from the tile of low words `lo`, that of high words `hi`, and the step `s` added. -/
def bits (lo hi : Words) (s : BitVec 32) : Words := fun j =>
  Rng.word (hi j + BitVec.setWidth 32 (BitVec.ofBool (BitVec.ult (lo j + s) (lo j)))) (lo j + s)

/-- A tile of scores and a tile of words after one step more: where the draw times the weight's reciprocal `p` is below the
    score, that product and the step's number `c` take over. -/
def tileStep (lo hi : Words) (c : BitVec 32) (p : S8x2048.Idx → EReal) (a : (S8x2048.Idx → EReal) × Words) :
    (S8x2048.Idx → EReal) × Words :=
  (fun j => if Rng.expo (bits lo hi (c * 2048#32) j) * p j < a.1 j then Rng.expo (bits lo hi (c * 2048#32) j) * p j else a.1 j,
   fun j => if Rng.expo (bits lo hi (c * 2048#32) j) * p j < a.1 j then c else a.2 j)

/-- What a trip yields from its words `w` and its load `v`, entry by entry. -/
theorem yield_eq (w : Words) (v : S1x8x2048.Idx → EReal) (f : S8x2048.Idx → EReal) (d : Words) (c : BitVec 32) :
    (k1_pay158 (F := Ideal) f w v, k1_pay159 (F := Ideal) f d c w v)
      = ((fun j => if Rng.expo (w j) * shapeCast S8x2048 v shapeCasts_S1x8x2048_S8x2048 j < f j then
            Rng.expo (w j) * shapeCast S8x2048 v shapeCasts_S1x8x2048_S8x2048 j else f j),
         fun j => if Rng.expo (w j) * shapeCast S8x2048 v shapeCasts_S1x8x2048_S8x2048 j < f j then c else d j) := by
  have h : ∀ j, k1_pay156 (F := Ideal) w v j = Rng.expo (w j) * shapeCast S8x2048 v shapeCasts_S1x8x2048_S8x2048 j := by
    intro j
    show (Ideal.ofBits .f32 0#32 - Ideal.log (max (Ideal.ofBits .f32 (Rng.pattern (w j)) - Ideal.ofBits .f32 1065353216#32)
      (Ideal.ofBits .f32 8388608#32))) * _ = _
    rw [Ideal.ofBits_zero_f32, Ideal.ofBits_one_f32, zero_sub]
    rfl
  have hc : ∀ j, k1_pay157 (F := Ideal) f w v j = BitVec.ofBool (decide (k1_pay156 (F := Ideal) w v j < f j)) := fun j => rfl
  refine Prod.ext (funext fun j => ?_) (funext fun j => ?_)
  · show Scalar.select (k1_pay157 (F := Ideal) f w v j) (k1_pay156 (F := Ideal) w v j) (f j) = _
    rw [hc, h]
    by_cases hlt : Rng.expo (w j) * shapeCast S8x2048 v shapeCasts_S1x8x2048_S8x2048 j < f j <;> simp [hlt, Scalar.select]
  · show Scalar.select (k1_pay157 (F := Ideal) f w v j) c (d j) = _
    rw [hc, h]
    by_cases hlt : Rng.expo (w j) * shapeCast S8x2048 v shapeCasts_S1x8x2048_S8x2048 j < f j <;> simp [hlt, Scalar.select]

end Cert.KernelValue
-- ==== Proof.KernelTrip.lean ====
/-
  One trip of each of the kernel's four loops is one step of the tile's race.
-/
module

public import proofs.«01_k».proof.Proof.KernelWords
public import proofs.«01_k».proof.Proof.Gen.KernelIdeal.Loops
public import Idealize.ShloMosaic.Lib.ValueIdx
public import Idealize.ShloMosaic.Lib.Pipeline.Value

@[expose] public section

set_option maxRecDepth 16384

noncomputable section

namespace Cert.KernelValue

open Idealize.ShloMosaic Cert.KernelIdeal Cert.KernelIdeal.Gen Idealize.ShloMosaic.ValueIdx

/-- The rows of group `g` in the chunk `k` of the reciprocals. -/
def rowTile (x : S49x32x2048.Idx → EReal) (g : Fin 4) (k : Fin 49) : S8x2048.Idx → EReal := fun j =>
  x (ix3 k (⟨8 * g.val + (j 0).val, by have := g.isLt; have : (j 0).val < 8 := (j 0).isLt; omega⟩ : Fin 32) (j 1))

theorem trips1 : k1_t1_loop.trips = 49 := by decide +kernel
theorem trips2 : k1_t2_loop.trips = 49 := by decide +kernel
theorem trips3 : k1_t3_loop.trips = 49 := by decide +kernel
theorem trips4 : k1_t4_loop.trips = 49 := by decide +kernel

/-- The trip's number as a word. -/
theorem iv_eq {n : ℕ} (k : Fin n) : Scf.iv 0#32 1#32 k = BitVec.ofNat 32 k.val := by
  show 0#32 + _ * 1#32 = _
  simp

/-- The load of a chunk's eight rows. -/
theorem load_eq (arg1 : Memref sig .tc .vmem S49x32x2048 .f32) (h : arg1.IsWhole) (x : S49x32x2048.Idx → EReal)
    (g : Fin 4) (k : Fin 49) (off : Fin 3 → ℕ) (hoff : off = ![k.val, 8 * g.val, 0])
    (hin : ∀ a, off a + S1x8x2048.size a ≤ S49x32x2048.size a) :
    shapeCast S8x2048 (View.readAt (Elt Ideal) arg1.view (Rect.unit (s := S49x32x2048) off S1x8x2048.size hin).toLoadRect
      (h.unread x)) shapeCasts_S1x8x2048_S8x2048 = rowTile x g k := by
  subst hoff
  simp only [View.readAt_eq_ld, h.read_unread]
  funext j
  refine (shapeCast_apply _ _ j (ix3 (0 : Fin 1) (j 0 : Fin 8) (j 1 : Fin 2048)) ?_).trans ?_
  · rw [Shape.rowMajor_val_three, Shape.rowMajor_val_two]
    show (0 * 8 + (j 0).val) * 2048 + (j 1).val = (j 0).val * 2048 + (j 1).val
    omega
  · unfold rowTile
    refine congrArg x (funext fun a => Fin.ext ?_)
    match a with
    | ⟨0, _⟩ => rfl
    | ⟨1, _⟩ => show 8 * g.val + 1 * (j 0).val = _; rw [one_mul]
    | ⟨2, _⟩ => show 0 + 1 * (j 1).val = _; rw [one_mul, zero_add]

/-- A yield whose words, number and load are the step's is the step. -/
theorem step_of_yield (lo hi w : Words) (n : BitVec 32) (v : S1x8x2048.Idx → EReal) {p : S8x2048.Idx → EReal}
    {acc : FVec Ideal S8x2048 .f32 × IVec S8x2048 32} (k : Fin 49) (hw : w = bits lo hi (BitVec.ofNat 32 k.val * 2048#32))
    (hn : n = BitVec.ofNat 32 k.val) (hv : shapeCast S8x2048 v shapeCasts_S1x8x2048_S8x2048 = p) :
    (k1_pay158 (F := Ideal) acc.1 w v, k1_pay159 (F := Ideal) acc.1 acc.2 n w v) = tileStep lo hi (BitVec.ofNat 32 k.val) p acc := by
  subst hw hn hv
  exact yield_eq _ _ _ _ _

theorem off1 : ∀ k : Fin 49, k1_off1 (k.cast trips1.symm) = ![k.val, 8 * (0 : Fin 4).val, 0] := by decide +kernel
theorem off2 : ∀ k : Fin 49, k1_off2 (k.cast trips2.symm) = ![k.val, 8 * (1 : Fin 4).val, 0] := by decide +kernel
theorem off3 : ∀ k : Fin 49, k1_off3 (k.cast trips3.symm) = ![k.val, 8 * (2 : Fin 4).val, 0] := by decide +kernel
theorem off4 : ∀ k : Fin 49, k1_off4 (k.cast trips4.symm) = ![k.val, 8 * (3 : Fin 4).val, 0] := by decide +kernel

variable (𝒱 : Variants) (c : Dev nD) (bd : Option 𝒱.V) (i : grid1.Coords)
  (arg1 : Memref sig .tc .vmem S49x32x2048 .f32) (harg1 : arg1.IsWhole) (arg2 : Memref sig .tc .vmem S1x1x32 .i32)
  (harg2 : arg2.IsWhole) (x : S49x32x2048.Idx → EReal) (acc : FVec Ideal S8x2048 .f32 × IVec S8x2048 32)

/-- A trip of the first loop. -/
theorem trip1 (k : Fin 49) :
    tripR_k1_t1 (F := Ideal) 𝒱 c bd i arg1 harg1 arg2 harg2 (harg1.unread x) (k.cast trips1.symm) acc
      = tileStep (k1_pay152 i) (k1_pay153 i) (BitVec.ofNat 32 k.val) (rowTile x 0 k) acc := by
  unfold tripR_k1_t1 trip_k1_t1
  have hn : Scf.iv 0#32 1#32 (k.cast trips1.symm) = BitVec.ofNat 32 k.val := iv_eq _
  exact step_of_yield _ _ _ _ _ k (by rw [← hn]; funext j; rfl) hn
    (load_eq arg1 harg1 x 0 k _ (off1 k) _)

/-- A trip of the second loop. -/
theorem trip2 (arg0 : BitVec 32) (v0 : IVec S8x2048 32) (v1 v38 v39 : IVec S8x1 32) (k : Fin 49) :
    tripR_k1_t2 (F := Ideal) 𝒱 c bd i arg1 harg1 arg2 harg2 arg0 v0 v1 v38 v39 (harg1.unread x) (k.cast trips2.symm) acc
      = tileStep (k1_pay164 v0 v38) (k1_pay165 v0 v38 v39) (BitVec.ofNat 32 k.val) (rowTile x 1 k) acc := by
  unfold tripR_k1_t2 trip_k1_t2
  have hn : Scf.iv 0#32 1#32 (k.cast trips2.symm) = BitVec.ofNat 32 k.val := iv_eq _
  exact step_of_yield _ _ _ _ _ k (by rw [← hn]; funext j; rfl) hn
    (load_eq arg1 harg1 x 1 k _ (off2 k) _)

/-- A trip of the third loop. -/
theorem trip3 (arg0 : BitVec 32) (v0 : IVec S8x2048 32) (v1 : IVec S8x1 32) (v75 v80 : IVec S8x2048 32)
    (v81 : FVec Ideal S8x2048 .f32) (z : BitVec 32) (k : Fin 49) :
    tripR_k1_t3 (F := Ideal) 𝒱 c bd i arg1 harg1 arg2 harg2 arg0 v0 v1 v75 v80 v81 z (harg1.unread x) (k.cast trips3.symm) acc
      = tileStep v75 v80 (BitVec.ofNat 32 k.val) (rowTile x 2 k) acc := by
  unfold tripR_k1_t3 trip_k1_t3
  have hn : Scf.iv 0#32 1#32 (k.cast trips3.symm) = BitVec.ofNat 32 k.val := iv_eq _
  exact step_of_yield _ _ _ _ _ k (by rw [← hn]; funext j; rfl) hn
    (load_eq arg1 harg1 x 2 k _ (off3 k) _)

/-- A trip of the fourth loop. -/
theorem trip4 (arg0 : BitVec 32) (v0 : IVec S8x2048 32) (v1 : IVec S8x1 32) (v75 v80 : IVec S8x2048 32)
    (v81 : FVec Ideal S8x2048 .f32) (z : BitVec 32) (k : Fin 49) :
    tripR_k1_t4 (F := Ideal) 𝒱 c bd i arg1 harg1 arg2 harg2 arg0 v0 v1 v75 v80 v81 z (harg1.unread x) (k.cast trips4.symm) acc
      = tileStep (k1_pay186 arg0 v0 v1) (k1_pay187 arg0 v0 v1) (BitVec.ofNat 32 k.val) (rowTile x 3 k) acc := by
  unfold tripR_k1_t4 trip_k1_t4
  have hn : Scf.iv 0#32 1#32 (k.cast trips4.symm) = BitVec.ofNat 32 k.val := iv_eq _
  exact step_of_yield _ _ _ _ _ k (by rw [← hn]; funext j; rfl) hn
    (load_eq arg1 harg1 x 3 k _ (off4 k) _)

end Cert.KernelValue
-- ==== Proof.Race.lean ====
/-
  The mathematics of the race, over the extended reals. With non-negative finite weights `p` and positive draws `e`, the
  order of the scores `e · (1 / p)`, smallest first, is the order of the perturbed log-weights `-log e + log (p / S)`, largest
  first, so the first smallest score and the first largest perturbed log-weight sit at the same place.
-/
module

public import Idealize.ShloMosaic.PureOps.Ideal

@[expose] public section

noncomputable section

namespace Cert.Race

open Idealize.ShloMosaic

/-- `v` is the first below `N` that `le` puts before all others below `N`. -/
def First (le : ℕ → ℕ → Prop) (N v : ℕ) : Prop := v < N ∧ ∀ w < N, le v w ∧ (w < v → ¬ le w v)

theorem First.unique {le : ℕ → ℕ → Prop} {N v w : ℕ} (hv : First le N v) (hw : First le N w) : v = w := by
  rcases lt_trichotomy v w with h | h | h
  · exact absurd (hv.2 w hw.1).1 ((hw.2 v hv.1).2 h)
  · exact h
  · exact absurd (hw.2 v hv.1).1 ((hv.2 w hw.1).2 h)

/-- Places past `n` that lose to all others do not matter. -/
theorem First.trim {f : ℕ → EReal} {n N v : ℕ} (h0 : 0 < n) (hn : n ≤ N) (htop : ∀ w, n ≤ w → w < N → f w = ⊤)
    (h : First (fun v w => f v ≤ f w) N v) : First (fun v w => f v ≤ f w) n v := by
  have hv : v < n := by
    by_contra hge
    have hge := not_lt.1 hge
    exact (h.2 0 (by omega)).2 (by omega) (by show f 0 ≤ f v; rw [htop v hge h.1]; exact le_top)
  exact ⟨hv, fun w hw => h.2 w (by omega)⟩

/-- The score of a weight and a draw. -/
def score (e p : EReal) : EReal := e * Ideal.div 1 p

/-- The perturbed log-weight. -/
def logit (e p S : EReal) : EReal := -Ideal.log e + Ideal.log (Ideal.div p S)

theorem score_zero {e : ℝ} (he : 0 < e) : score (e : EReal) 0 = ⊤ := by
  unfold score Ideal.div
  rw [if_pos rfl, if_pos (by norm_num)]
  exact EReal.coe_mul_top_of_pos he

theorem score_pos {e p : ℝ} (hp : 0 < p) : score (e : EReal) (p : EReal) = ((e / p : ℝ) : EReal) := by
  unfold score Ideal.div
  rw [if_neg (by exact_mod_cast hp.ne'), one_mul, ← EReal.coe_inv, ← EReal.coe_mul, div_eq_mul_inv]

theorem log_pos {r : ℝ} (hr : 0 < r) : Ideal.log (r : EReal) = (Real.log r : EReal) := by
  show (if r ≤ 0 then (⊥ : EReal) else (Real.log r : EReal)) = _
  rw [if_neg (not_le.2 hr)]

theorem log_zero : Ideal.log 0 = ⊥ := by
  show (if (0 : ℝ) ≤ 0 then (⊥ : EReal) else (Real.log 0 : EReal)) = _
  rw [if_pos le_rfl]

theorem logit_zero {e : EReal} {S : ℝ} : logit e 0 (S : EReal) = ⊥ := by
  unfold logit Ideal.div
  by_cases hS : (S : EReal) = 0
  · rw [if_pos hS, if_neg (lt_irrefl _)]
    show _ + (⊥ : EReal) = ⊥
    exact EReal.add_bot _
  · rw [if_neg hS, zero_mul, log_zero, EReal.add_bot]

theorem logit_pos {e p S : ℝ} (he : 0 < e) (hp : 0 < p) (hS : 0 < S) :
    logit (e : EReal) (p : EReal) (S : EReal) = ((-Real.log (e / p) - Real.log S : ℝ) : EReal) := by
  unfold logit Ideal.div
  rw [if_neg (by exact_mod_cast hS.ne'), ← EReal.coe_inv, ← EReal.coe_mul, log_pos he,
    log_pos (mul_pos hp (inv_pos.2 hS)), ← EReal.coe_neg, ← EReal.coe_add, Real.log_mul hp.ne' (inv_pos.2 hS).ne',
    Real.log_inv, Real.log_div he.ne' hp.ne']
  congr 1; ring

/-- THE TWO ORDERS AGREE: the smaller score has the larger perturbed log-weight. -/
theorem score_le_iff {e e' p p' S : ℝ} (he : 0 < e) (he' : 0 < e') (hp : 0 ≤ p) (hp' : 0 ≤ p') (hS : p ≤ S) (hS' : p' ≤ S) :
    score (e : EReal) p ≤ score (e' : EReal) p' ↔ logit (e' : EReal) p' S ≤ logit (e : EReal) p S := by
  rcases hp'.eq_or_lt with rfl | hp'
  · rw [EReal.coe_zero, score_zero he', logit_zero]; simp
  rcases hp.eq_or_lt with rfl | hp
  · rw [EReal.coe_zero, score_zero he, logit_zero, score_pos hp', logit_pos he' hp' (hp'.trans_le hS')]
    simp only [top_le_iff, le_bot_iff]
    constructor
    · intro h; exact absurd h (EReal.coe_ne_top _)
    · intro h; exact absurd h (EReal.coe_ne_bot _)
  rw [score_pos hp, score_pos hp', logit_pos he hp (hp.trans_le hS), logit_pos he' hp' (hp'.trans_le hS'),
    EReal.coe_le_coe_iff, EReal.coe_le_coe_iff, sub_le_sub_iff_right, neg_le_neg_iff]
  exact (Real.log_le_log_iff (div_pos he hp) (div_pos he' hp')).symm

/-! ## Scans that find a first place -/

/-- One step of the scan: a strictly smaller score takes over. -/
def pick (f : ℕ → EReal) (c : ℕ) (a : EReal × ℕ) : EReal × ℕ := if f c < a.1 then (f c, c) else a

/-- The scan of the first `n` places from (⊤, 0). -/
def scan (f : ℕ → EReal) : ℕ → EReal × ℕ
  | 0 => (⊤, 0)
  | n + 1 => pick f n (scan f n)

theorem scan_inv (f : ℕ → EReal) : ∀ n,
    (∀ c < n, (scan f n).1 ≤ f c) ∧ (∀ c < (scan f n).2, (scan f n).1 < f c)
      ∧ ((scan f n = (⊤, 0)) ∨ ((scan f n).2 < n ∧ f (scan f n).2 = (scan f n).1))
  | 0 => ⟨by simp, by simp [scan], .inl rfl⟩
  | n + 1 => by
    obtain ⟨h1, h2, h3⟩ := scan_inv f n
    show (∀ c < n + 1, (pick f n (scan f n)).1 ≤ f c) ∧ (∀ c < (pick f n (scan f n)).2, (pick f n (scan f n)).1 < f c) ∧ _
    have hs : scan f (n + 1) = pick f n (scan f n) := rfl
    rw [hs]
    unfold pick
    split
    · rename_i h
      refine ⟨fun c hc => ?_, fun c hc => h.trans_le (h1 c hc), .inr ⟨Nat.lt_succ_self n, rfl⟩⟩
      rcases Nat.lt_succ_iff_lt_or_eq.1 hc with hc | rfl
      · exact h.le.trans (h1 c hc)
      · exact le_rfl
    · rename_i h
      refine ⟨fun c hc => ?_, h2, h3.imp id fun h => ⟨by omega, h.2⟩⟩
      rcases Nat.lt_succ_iff_lt_or_eq.1 hc with hc | rfl
      · exact h1 c hc
      · exact not_lt.1 h

/-- The scan of at least one place ends with the first smallest. -/
theorem scan_first (f : ℕ → EReal) {n : ℕ} (hn : 0 < n) :
    (scan f n).2 < n ∧ f (scan f n).2 = (scan f n).1 ∧ (∀ c < n, (scan f n).1 ≤ f c)
      ∧ ∀ c < (scan f n).2, (scan f n).1 < f c := by
  obtain ⟨h1, h2, h3⟩ := scan_inv f n
  rcases h3 with h | h
  · have := h1 0 hn
    rw [h] at this ⊢
    exact ⟨hn, top_le_iff.1 this, by rw [h] at h1; exact h1, fun c hc => absurd hc (Nat.not_lt_zero _)⟩
  · exact ⟨h.1, h.2, h1, h2⟩

/-- Places dealt to lanes: each lane scanned over its rows, the least place among the lanes that attain the overall minimum `m`
    is the first smallest of all places `c · L + l`. -/
theorem first_of_lanes {f : ℕ → EReal} {L C k : ℕ} (hC : 0 < C) {m : EReal}
    (hm : ∀ l < L, m ≤ (scan (fun c => f (c * L + l)) C).1)
    (hk : ∃ l < L, (scan (fun c => f (c * L + l)) C).1 = m ∧ k = (scan (fun c => f (c * L + l)) C).2 * L + l)
    (hle : ∀ l < L, (scan (fun c => f (c * L + l)) C).1 = m → k ≤ (scan (fun c => f (c * L + l)) C).2 * L + l) :
    First (fun v w => f v ≤ f w) (C * L) k := by
  obtain ⟨l, hl, hlm, rfl⟩ := hk
  obtain ⟨a1, a2, a3, a4⟩ := scan_first (fun c => f (c * L + l)) hC
  have hL : 0 < L := by omega
  have hfk : f ((scan (fun c => f (c * L + l)) C).2 * L + l) = m := a2.trans hlm
  have key : ∀ w < C * L, w / L < C ∧ w % L < L ∧ w = w / L * L + w % L := fun w hw =>
    ⟨Nat.div_lt_of_lt_mul (by rwa [Nat.mul_comm] at hw), Nat.mod_lt _ hL, (Nat.div_add_mod' w L).symm⟩
  refine ⟨?_, fun w hw => ?_⟩
  · calc _ < (scan (fun c => f (c * L + l)) C).2 * L + L := by omega
      _ = ((scan (fun c => f (c * L + l)) C).2 + 1) * L := by ring
      _ ≤ C * L := Nat.mul_le_mul_right _ a1
  obtain ⟨hw1, hw2, hw3⟩ := key w hw
  obtain ⟨b1, b2, b3, b4⟩ := scan_first (fun c => f (c * L + w % L)) hC
  have hmw : m ≤ f w := by rw [hw3]; exact (hm _ hw2).trans (b3 _ hw1)
  refine ⟨hfk.le.trans hmw, fun hlt hle' => ?_⟩
  have hwm : f w = m := le_antisymm (hle'.trans hfk.le) hmw
  have hs : (scan (fun c => f (c * L + w % L)) C).1 = m :=
    le_antisymm (by rw [← hwm]; conv_rhs => rw [hw3]
                    exact b3 _ hw1) (hm _ hw2)
  have hk' := hle _ hw2 hs
  have : (scan (fun c => f (c * L + w % L)) C).2 ≤ w / L := by
    by_contra hgt
    have := b4 (w / L) (not_le.1 hgt)
    rw [hs] at this
    have h' : f (w / L * L + w % L) = m := by rw [← hw3, hwm]
    exact absurd this (by simp only [h']; exact lt_irrefl _)
  have := Nat.mul_le_mul_right L this
  omega

end Cert.Race
-- ==== Proof.Lanes.lean ====
/-
  The end of a group: each row takes the least score of its 2048 lanes and, among the lanes that attain it, the least place.
-/
module

public import proofs.«01_k».proof.Proof.Gen.KernelIdeal.Skeleton
public import proofs.«01_k».proof.Proof.Race
public import Idealize.ShloMosaic.PureOps.Ideal.Laws
public import Idealize.ShloMosaic.Lib.ValueIdx
public import Idealize.ShloMosaic.Lib.WordArith
public import Idealize.ShloMosaic.Lib.Pipeline.Value

@[expose] public section

set_option maxRecDepth 16384

noncomputable section

namespace Cert.KernelValue

open Idealize.ShloMosaic Idealize.ShloMosaic.WordArith Cert.KernelIdeal Cert.KernelIdeal.Gen Idealize.ShloMosaic.ValueIdx Cert.Race

/-- The least of finitely many extended reals is below each and is attained. -/
theorem least {n : ℕ} (hn : 0 < n) (f : Fin n → EReal) :
    (∀ l, (Finset.univ : Finset (Fin n)).fold min ⊤ f ≤ f l) ∧ ∃ l, f l = (Finset.univ : Finset (Fin n)).fold min ⊤ f := by
  have h1 : ∀ l, (Finset.univ : Finset (Fin n)).fold min ⊤ f ≤ f l := fun l =>
    (Finset.fold_min_le (f l)).2 (.inr ⟨l, Finset.mem_univ _, le_rfl⟩)
  refine ⟨h1, ?_⟩
  rcases (Finset.fold_min_le (b := ⊤) (f := f) (s := Finset.univ) _).1 le_rfl with h | ⟨l, -, h⟩
  · exact ⟨⟨0, hn⟩, le_antisymm (le_top.trans h) (h1 _)⟩
  · exact ⟨l, le_antisymm h (h1 l)⟩

/-- The signed minimum of finitely many non-negative words is below each and is the start or one of them. -/
theorem least_word {ι : Type} [DecidableEq ι] (f : ι → BitVec 32) (hf : ∀ l, (f l).toNat < 2 ^ 31) (s : Finset ι) :
    (s.fold IKind.minsi.op 2147483647#32 f).toNat < 2 ^ 31
      ∧ (∀ l ∈ s, (s.fold IKind.minsi.op 2147483647#32 f).toNat ≤ (f l).toNat)
      ∧ (s.fold IKind.minsi.op 2147483647#32 f = 2147483647#32 ∨ ∃ l ∈ s, s.fold IKind.minsi.op 2147483647#32 f = f l) := by
  induction s using Finset.induction_on with
  | empty => exact ⟨by rw [Finset.fold_empty]; decide, by simp, .inl Finset.fold_empty⟩
  | insert a s ha ih =>
    obtain ⟨i1, i2, i3⟩ := ih
    have e := toNat_minsi_of_lt (f a) (s.fold IKind.minsi.op 2147483647#32 f) (hf a) i1
    have hop : ∀ x y, IKind.minsi.op x y = IntOp.minsi x y := fun _ _ => rfl
    rw [Finset.fold_insert ha, hop]
    refine ⟨by rw [e]; exact (min_le_left _ _).trans_lt (hf a), fun l hl => ?_, ?_⟩
    · rw [e]
      rcases Finset.mem_insert.1 hl with rfl | hl
      · exact min_le_left _ _
      · exact (min_le_right _ _).trans (i2 l hl)
    · have : ∀ x y : BitVec 32, IntOp.minsi x y = x ∨ IntOp.minsi x y = y := by
        intro x y; unfold IntOp.minsi; split <;> simp
      rcases this (f a) (s.fold IKind.minsi.op 2147483647#32 f) with h | h
      · exact .inr ⟨a, by simp, h⟩
      · rcases i3 with h' | ⟨l, hl, h'⟩
        · exact .inl (h.trans h')
        · exact .inr ⟨l, by simp [hl], h.trans h'⟩

/-- The number of each lane. -/
abbrev laneNo : IVec S8x2048 32 := iota .tc S8x2048 32 [1] iota_S8x2048_d1_w32

theorem lift_row (r : Fin 8) (l : Fin 2048) : reduces_S8x2048_S8.lift (ix1 r) l = ix2 r l := by
  funext a
  match a with
  | ⟨0, _⟩ => rfl
  | ⟨1, _⟩ => rfl

theorem ofBits_top : Ideal.ofBits .f32 0x7F800000#32 = (⊤ : EReal) := by
  simp [Ideal.ofBits, Ideal.ieee]

/-- A row's winner as the kernel takes it. -/
theorem winner_apply (F : S8x2048.Idx → EReal) (C : IVec S8x2048 32) (r : Fin 8) :
    k1_pay172 (F := Ideal) laneNo F C (ix1 r)
      = (Finset.univ : Finset (Fin 2048)).fold IKind.minsi.op 2147483647#32 (fun l =>
          if F (ix2 r l) = (Finset.univ : Finset (Fin 2048)).fold min ⊤ (fun l => F (ix2 r l))
          then C (ix2 r l) * 2048#32 + BitVec.ofNat 32 l.val else 2147483647#32) := by
  unfold k1_pay172
  refine (multiReductionI_eq_fold .minsi _ _ _ _ _).trans ?_
  rw [reduces_S8x2048_S8.fold_filter_drop_single]
  refine congrArg (fun f => (Finset.univ : Finset (Fin 2048)).fold IKind.minsi.op 2147483647#32 f) (funext fun (l : Fin 2048) => ?_)
  show Scalar.select (BitVec.ofBool (decide (F (reduces_S8x2048_S8.lift (ix1 r) l) = broadcastTo S8x2048 _ _ (reduces_S8x2048_S8.lift (ix1 r) l))))
    (C (reduces_S8x2048_S8.lift (ix1 r) l) * 2048#32 + laneNo (reduces_S8x2048_S8.lift (ix1 r) l)) 2147483647#32 = _
  have hr : reduces_S8x2048_S8.lift (ix1 r) l = ix2 r l := lift_row r l
  rw [hr]
  have hm : broadcastTo S8x2048 (shapeCast S8x1 (multiReduction (F := Ideal) (φ := .f32) .minimumf [1] S8 F 0x7F800000#32 reduces_S8x2048_S8 (.inl rfl) rfl)
      shapeCasts_S8_S8x1) broadcasts_S8x1_S8x2048 (ix2 r l) = (Finset.univ : Finset (Fin 2048)).fold min ⊤ (fun l => F (ix2 r l)) := by
    refine (broadcastTo_apply _ _ _ (ix2 r (0 : Fin 1)) (by intro a; fin_cases a <;> rfl)).trans ?_
    refine (shapeCast_apply _ _ _ (ix1 r) ?_).trans ?_
    · rw [Shape.rowMajor_val_one, Shape.rowMajor_val_two]
      show r.val = r.val * 1 + 0
      omega
    · refine (multiReduction_minimumf_eq_fold _ _ _ _ _ _).trans ?_
      rw [reduces_S8x2048_S8.fold_filter_drop_single]
      have e : (F ∘ reduces_S8x2048_S8.lift (ix1 r)) = fun l => F (ix2 r l) := funext fun l => congrArg F (lift_row r l)
      rw [e, ← ofBits_top]
      rfl
  have hl : laneNo (ix2 r l) = BitVec.ofNat 32 l.val := iota_single_apply ..
  rw [hl]
  have hs : ∀ (p : Prop) [Decidable p] (x y : BitVec 32), Scalar.select (BitVec.ofBool (decide p)) x y = if p then x else y := by
    intro p _ x y
    by_cases h : p <;> simp [h, Scalar.select]
  rw [hs]
  exact if_congr (by rw [← hm]) rfl rfl

/-- A row whose lanes hold their scans' ends gives the first smallest of the row. -/
theorem winner_first (f : ℕ → EReal) (F : S8x2048.Idx → EReal) (C : IVec S8x2048 32) (r : Fin 8)
    (hF : ∀ l : Fin 2048, F (ix2 r l) = (scan (fun c => f (c * 2048 + l.val)) 49).1)
    (hC : ∀ l : Fin 2048, C (ix2 r l) = BitVec.ofNat 32 (scan (fun c => f (c * 2048 + l.val)) 49).2) :
    ∃ k, First (fun v w => f v ≤ f w) 100352 k ∧ k1_pay172 (F := Ideal) laneNo F C (ix1 r) = BitVec.ofNat 32 k := by
  rw [winner_apply]
  obtain ⟨m1, l₀, m2⟩ := least (by norm_num) (fun l : Fin 2048 => F (ix2 r l))
  generalize (Finset.univ : Finset (Fin 2048)).fold min ⊤ (fun l => F (ix2 r l)) = m at m1 m2 ⊢
  have hlt : ∀ l : Fin 2048, (scan (fun c => f (c * 2048 + l.val)) 49).2 * 2048 + l.val < 100352 := by
    intro l
    have := (scan_first (fun c => f (c * 2048 + l.val)) (n := 49) (by norm_num)).1
    have := l.isLt
    omega
  have hw : ∀ l : Fin 2048, C (ix2 r l) * 2048#32 + BitVec.ofNat 32 l.val
      = BitVec.ofNat 32 ((scan (fun c => f (c * 2048 + l.val)) 49).2 * 2048 + l.val) := by
    intro l
    rw [hC, BitVec.ofNat_add, BitVec.ofNat_mul]
  have hwn : ∀ l : Fin 2048, (C (ix2 r l) * 2048#32 + BitVec.ofNat 32 l.val).toNat
      = (scan (fun c => f (c * 2048 + l.val)) 49).2 * 2048 + l.val := by
    intro l
    rw [hw, BitVec.toNat_ofNat, Nat.mod_eq_of_lt ((hlt l).trans (by norm_num))]
  obtain ⟨q1, q2, q3⟩ := least_word (fun l : Fin 2048 => if F (ix2 r l) = m then C (ix2 r l) * 2048#32 + BitVec.ofNat 32 l.val else 2147483647#32)
    (by
      intro l
      split
      · rw [hwn]; exact (hlt l).trans (by norm_num)
      · decide) Finset.univ
  generalize (Finset.univ : Finset (Fin 2048)).fold IKind.minsi.op 2147483647#32 (fun l =>
    if F (ix2 r l) = m then C (ix2 r l) * 2048#32 + BitVec.ofNat 32 l.val else 2147483647#32) = q at q1 q2 q3 ⊢
  have hle : ∀ l : Fin 2048, F (ix2 r l) = m → q.toNat ≤ (scan (fun c => f (c * 2048 + l.val)) 49).2 * 2048 + l.val := by
    intro l hl
    have := q2 l (Finset.mem_univ _)
    rw [if_pos hl, hwn] at this
    exact this
  have hq : ∃ l : Fin 2048, F (ix2 r l) = m ∧ q.toNat = (scan (fun c => f (c * 2048 + l.val)) 49).2 * 2048 + l.val := by
    have big : q ≠ 2147483647#32 := by
      rintro rfl
      have := (hle l₀ m2).trans_lt (hlt l₀)
      revert this
      decide
    rcases q3 with h | ⟨l, -, h⟩
    · exact absurd h big
    · by_cases hl : F (ix2 r l) = m
      · rw [if_pos hl] at h
        exact ⟨l, hl, by rw [h, hwn]⟩
      · rw [if_neg hl] at h
        exact absurd h big
  refine ⟨q.toNat, ?_, by rw [BitVec.ofNat_toNat, BitVec.setWidth_eq]⟩
  have hF' : ∀ (l : ℕ) (h : l < 2048), (scan (fun c => f (c * 2048 + l)) 49).1 = F (ix2 r ⟨l, h⟩) := fun l h => (hF ⟨l, h⟩).symm
  refine first_of_lanes (f := f) (L := 2048) (C := 49) (m := m) (by norm_num) (fun l h => ?_) ?_ (fun l h e => ?_)
  · rw [hF' l h]; exact m1 _
  · obtain ⟨l, hl, e⟩ := hq
    exact ⟨l.val, l.isLt, (hF l).symm.trans hl, e⟩
  · rw [hF' l h] at e
    exact hle ⟨l, h⟩ e

end Cert.KernelValue
-- ==== Proof.Game.lean ====
/-
  The race of one sample: the draw and the weight at each place, and the place that wins.
-/
module

public import proofs.«01_k».proof.Proof.Rng
public import proofs.«01_k».proof.Proof.Race
public import Idealize.ShloMosaic.Lib.ValueIdx

@[expose] public section

noncomputable section

namespace Cert.Game

open Idealize.ShloMosaic Idealize.ShloMosaic.ValueIdx Cert.Race

/-- The weights, 32 rows of 100000. -/
abbrev Weights := (⟨2, ![32, 100000]⟩ : Shape).Idx → EReal

/-- The draw of sample `i`, row `b`, place `v`. -/
def draw (i b v : ℕ) : EReal := Rng.expo (Rng.wordAt (3200000 * i + 100000 * b + v))

/-- The weight at place `v` of row `b`, zero past the row's end. -/
def weight (P : Weights) (b : Fin 32) (v : ℕ) : EReal := if h : v < 100000 then P (ix2 b ⟨v, h⟩) else 0

/-- The score at place `v`. -/
def points (P : Weights) (i : ℕ) (b : Fin 32) (v : ℕ) : EReal := score (draw i b.val v) (weight P b v)

/-- `k` is the place that wins: the first of the smallest score. -/
def Wins (P : Weights) (i : ℕ) (b : Fin 32) (k : ℕ) : Prop := First (fun v w => points P i b v ≤ points P i b w) 100000 k

/-- Every weight is a non-negative real number. -/
def Proper (P : Weights) : Prop := ∀ j, ∃ r : ℝ, 0 ≤ r ∧ P j = (r : EReal)

theorem draw_pos (i b v : ℕ) : ∃ r : ℝ, 0 < r ∧ draw i b v = (r : EReal) := Rng.expo_pos _

theorem weight_proper {P : Weights} (hP : Proper P) (b : Fin 32) (v : ℕ) : ∃ r : ℝ, 0 ≤ r ∧ weight P b v = (r : EReal) := by
  unfold weight
  split
  · exact hP _
  · exact ⟨0, le_rfl, rfl⟩

/-- Past the row's end every score is infinite. -/
theorem points_past (P : Weights) (i : ℕ) (b : Fin 32) {v : ℕ} (hv : 100000 ≤ v) : points P i b v = ⊤ := by
  obtain ⟨r, hr, e⟩ := draw_pos i b.val v
  unfold points weight
  rw [dif_neg (not_lt.2 hv), e]
  exact score_zero hr

/-- The winner among the places and any number past the row's end is the winner. -/
theorem wins_of_padded {P : Weights} {i : ℕ} {b : Fin 32} {N k : ℕ} (hN : 100000 ≤ N)
    (h : First (fun v w => points P i b v ≤ points P i b w) N k) : Wins P i b k :=
  First.trim (by norm_num) hN (fun w hw _ => points_past P i b hw) h

/-- The winner is the first of the largest perturbed log-weight, under any finite total that is no less than each weight. -/
theorem wins_of_logit {P : Weights} (hP : Proper P) {i : ℕ} {b : Fin 32} {S : EReal} {k : ℕ}
    (hS : ∃ s : ℝ, S = (s : EReal) ∧ ∀ v, v < 100000 → weight P b v ≤ S)
    (h : First (fun v w => logit (draw i b.val w) (weight P b w) S ≤ logit (draw i b.val v) (weight P b v) S) 100000 k) :
    Wins P i b k := by
  obtain ⟨s, rfl, hs⟩ := hS
  have key : ∀ v < 100000, ∀ w < 100000, points P i b v ≤ points P i b w ↔
      logit (draw i b.val w) (weight P b w) s ≤ logit (draw i b.val v) (weight P b v) s := by
    intro v hv w hw
    obtain ⟨e, he, ee⟩ := draw_pos i b.val v
    obtain ⟨e', he', ee'⟩ := draw_pos i b.val w
    obtain ⟨p, hp, ep⟩ := weight_proper hP b v
    obtain ⟨p', hp', ep'⟩ := weight_proper hP b w
    have h1 := hs v hv
    have h2 := hs w hw
    unfold points
    rw [ee, ee', ep, ep'] at *
    exact score_le_iff he he' hp hp' (EReal.coe_le_coe_iff.1 h1) (EReal.coe_le_coe_iff.1 h2)
  exact ⟨h.1, fun w hw => ⟨(key k h.1 w hw).2 (h.2 w hw).1, fun hlt hle => (h.2 w hw).2 hlt ((key w hw k h.1).1 hle)⟩⟩

end Cert.Game
-- ==== Proof.Counts.lean ====
/-
  The positions the kernel counts from: per group of eight rows, the low and the high words of the first position of each
  lane, and the scores of a group's lanes after each step.
-/
module

public import proofs.«01_k».proof.Proof.KernelWords
public import proofs.«01_k».proof.Proof.KernelTrip
public import proofs.«01_k».proof.Proof.Lanes
public import proofs.«01_k».proof.Proof.Game

@[expose] public section

set_option maxRecDepth 16384

noncomputable section

namespace Cert.KernelValue

open Idealize.ShloMosaic Cert.KernelIdeal Cert.KernelIdeal.Gen Idealize.ShloMosaic.ValueIdx Cert.Race Cert.Game

/-- The first position of row `b`'s lane `l` in sample `i`. -/
def place (i b l : ℕ) : ℕ := 3200000 * i + 100000 * b + l

/-- The tiles `lo`, `hi` hold the two halves of the first position of each lane of group `g`. -/
def Counts (lo hi : Words) (i : ℕ) (g : Fin 4) : Prop :=
  ∀ (r : Fin 8) (l : Fin 2048), lo (ix2 r l) = BitVec.ofNat 32 (place i (8 * g.val + r.val) l.val)
    ∧ hi (ix2 r l) = BitVec.ofNat 32 (place i (8 * g.val + r.val) l.val / 2 ^ 32)

/-- A column of words spread over the lanes. -/
theorem spread (w : IVec S8x1 32) (r : Fin 8) (l : Fin 2048) :
    broadcastTo S8x2048 w broadcasts_S8x1_S8x2048 (ix2 r l) = w (ix2 r (0 : Fin 1)) :=
  broadcastTo_apply _ _ _ (ix2 r (0 : Fin 1)) (by intro a; fin_cases a <;> rfl)

/-- From a column that holds 3125 times each row's number, the two halves of the positions. -/
theorem counts_of (tv : IVec S8x1 32) {i : ℕ} (hi : i < 4096) (g : Fin 4)
    (h : ∀ r : Fin 8, tv (ix2 r (0 : Fin 1)) = BitVec.ofNat 32 ((32 * i + 8 * g.val + r.val) * 3125)) :
    Counts (k1_pay164 laneNo tv) (k1_pay165 laneNo tv k1_pay162) i g := by
  intro r l
  have hg := g.isLt
  have hr := r.isLt
  have hl := l.isLt
  obtain ⟨s1, s2⟩ := Rng.halves (q := (32 * i + 8 * g.val + r.val) * 3125) (by omega)
  obtain ⟨c1, c2⟩ := Rng.carry (n := 32 * ((32 * i + 8 * g.val + r.val) * 3125)) (d := l.val) (by omega) (by omega)
  have e : place i (8 * g.val + r.val) l.val = 32 * ((32 * i + 8 * g.val + r.val) * 3125) + l.val := by
    unfold place; omega
  have hL : laneNo (ix2 r l) = BitVec.ofNat 32 l.val := iota_single_apply ..
  have hb : broadcastTo S8x2048 (k1_pay163 tv) broadcasts_S8x1_S8x2048 (ix2 r l)
      = BitVec.ofNat 32 (32 * ((32 * i + 8 * g.val + r.val) * 3125)) := by
    rw [spread, ← s2, ← h]
    exact shl_vec _ 5#32 (by decide)
  have hlo : k1_pay164 laneNo tv (ix2 r l) = BitVec.ofNat 32 (place i (8 * g.val + r.val) l.val) := by
    show broadcastTo S8x2048 (k1_pay163 tv) broadcasts_S8x1_S8x2048 (ix2 r l) + laneNo (ix2 r l) = _
    rw [hb, hL, c2, e]
  refine ⟨hlo, ?_⟩
  show broadcastTo S8x2048 (shrui tv k1_pay162) broadcasts_S8x1_S8x2048 (ix2 r l)
    + BitVec.setWidth 32 (BitVec.ofBool (BitVec.ult (broadcastTo S8x2048 (k1_pay163 tv) broadcasts_S8x1_S8x2048 (ix2 r l) + laneNo (ix2 r l))
        (broadcastTo S8x2048 (k1_pay163 tv) broadcasts_S8x1_S8x2048 (ix2 r l)))) = _
  have hh : broadcastTo S8x2048 (shrui tv k1_pay162) broadcasts_S8x1_S8x2048 (ix2 r l)
      = BitVec.ofNat 32 (32 * ((32 * i + 8 * g.val + r.val) * 3125) / 2 ^ 32) := by
    rw [spread, ← s1, ← h]
    exact shr_vec _ 27#32 (by decide)
  rw [hh, hb, hL, c1, e]

/-- The number of each row. -/
abbrev rowNo : IVec S8x1 32 := iota .tc S8x1 32 [0] iota_S8x1_d0_w32

theorem column (i : ℕ) (g : Fin 4) (r : Fin 8) :
    (BitVec.ofNat 32 i * 32#32 + BitVec.ofNat 32 (8 * g.val) + rowNo (ix2 r (0 : Fin 1))) * 3125#32
      = BitVec.ofNat 32 ((32 * i + 8 * g.val + r.val) * 3125) := by
  have hR : rowNo (ix2 r (0 : Fin 1)) = BitVec.ofNat 32 r.val := iota_single_apply ..
  rw [hR, BitVec.ofNat_mul (x := 32 * i + 8 * g.val + r.val), BitVec.ofNat_add, BitVec.ofNat_add, BitVec.ofNat_mul (x := 32) (y := i),
    BitVec.mul_comm (BitVec.ofNat 32 i)]

/-- The first group's positions. -/
theorem counts1 (i : grid1.Coords) : Counts (k1_pay152 i) (k1_pay153 i) (i 0).val 0 :=
  counts_of (k1_pay150 i) (i 0).isLt 0 fun r => column (i 0).val 0 r

/-- The second group's positions. -/
theorem counts2 (i : grid1.Coords) : Counts (k1_pay164 laneNo (k1_pay161 i)) (k1_pay165 laneNo (k1_pay161 i) k1_pay162) (i 0).val 1 :=
  counts_of (k1_pay161 i) (i 0).isLt 1 fun r => column (i 0).val 1 r

/-- The third group's positions. -/
theorem counts3 (i : grid1.Coords) : Counts (k1_pay175 (BitVec.ofNat 32 (i 0).val) laneNo rowNo)
    (k1_pay176 (BitVec.ofNat 32 (i 0).val) laneNo rowNo) (i 0).val 2 :=
  counts_of (k1_pay173 (BitVec.ofNat 32 (i 0).val) rowNo) (i 0).isLt 2 fun r => column (i 0).val 2 r

/-- The fourth group's positions. -/
theorem counts4 (i : grid1.Coords) : Counts (k1_pay186 (BitVec.ofNat 32 (i 0).val) laneNo rowNo)
    (k1_pay187 (BitVec.ofNat 32 (i 0).val) laneNo rowNo) (i 0).val 3 :=
  counts_of (k1_pay184 (BitVec.ofNat 32 (i 0).val) rowNo) (i 0).isLt 3 fun r => column (i 0).val 3 r

/-! ## A group's race -/

/-- The array of reciprocals: chunk `c`, row `b`, lane `l` holds one over the weight at place `2048·c + l`. -/
def Recips (P : Weights) (x : S49x32x2048.Idx → EReal) : Prop :=
  ∀ (c : Fin 49) (b : Fin 32) (l : Fin 2048), x (ix3 c b l) = Ideal.div 1 (weight P b (c.val * 2048 + l.val))

/-- Row `r` of group `g`. -/
abbrev rowOf (g : Fin 4) (r : Fin 8) : Fin 32 := ⟨8 * g.val + r.val, by omega⟩

/-- The words of step `c` are those of the positions `2048·c` further. -/
theorem bits_counts {lo hi : Words} {i : ℕ} (hi4 : i < 4096) {g : Fin 4} (h : Counts lo hi i g) {c : ℕ} (hc : c < 49)
    (r : Fin 8) (l : Fin 2048) :
    Rng.expo (bits lo hi (BitVec.ofNat 32 c * 2048#32) (ix2 r l)) = draw i (rowOf g r).val (c * 2048 + l.val) := by
  obtain ⟨h1, h2⟩ := h r l
  have hg := g.isLt
  have hr := r.isLt
  have hl := l.isLt
  obtain ⟨c1, c2⟩ := Rng.carry (n := place i (8 * g.val + r.val) l.val) (d := c * 2048) (by omega) (by unfold place; omega)
  rw [BitVec.ofNat_mul] at c1 c2
  unfold bits draw Rng.wordAt
  rw [h1, h2, c1, c2]
  have e : place i (8 * g.val + r.val) l.val + c * 2048 = 3200000 * i + 100000 * (rowOf g r).val + (c * 2048 + l.val) := by
    unfold place; show _ = 3200000 * i + 100000 * (8 * g.val + r.val) + (c * 2048 + l.val); omega
  rw [e]

/-- After each step, every lane holds the scan of its scores so far. -/
theorem scan_tile {P : Weights} {x : S49x32x2048.Idx → EReal} (hx : Recips P x) {lo hi : Words} {i : ℕ} (hi4 : i < 4096)
    {g : Fin 4} (h : Counts lo hi i g) (s : ℕ → (S8x2048.Idx → EReal) × Words)
    (h0 : s 0 = (fun _ => ⊤, fun _ => 0#32))
    (hs : ∀ k : Fin 49, s (k.val + 1) = tileStep lo hi (BitVec.ofNat 32 k.val) (rowTile x g k) (s k.val)) :
    ∀ n ≤ 49, ∀ (r : Fin 8) (l : Fin 2048),
      (s n).1 (ix2 r l) = (scan (fun c => points P i (rowOf g r) (c * 2048 + l.val)) n).1
      ∧ (s n).2 (ix2 r l) = BitVec.ofNat 32 (scan (fun c => points P i (rowOf g r) (c * 2048 + l.val)) n).2 := by
  intro n
  induction n with
  | zero => intro _ r l; rw [h0]; exact ⟨rfl, rfl⟩
  | succ n ih =>
    intro hn r l
    obtain ⟨i1, i2⟩ := ih (by omega) r l
    have hk := hs ⟨n, by omega⟩
    have hv : Rng.expo (bits lo hi (BitVec.ofNat 32 n * 2048#32) (ix2 r l)) * rowTile x g ⟨n, by omega⟩ (ix2 r l)
        = points P i (rowOf g r) (n * 2048 + l.val) := by
      rw [bits_counts hi4 h (by omega) r l]
      exact congrArg _ (hx ⟨n, by omega⟩ (rowOf g r) l)
    dsimp only at hk
    rw [hk]
    unfold tileStep
    dsimp only
    rw [hv, i1, i2]
    show _ = (pick (fun c => points P i (rowOf g r) (c * 2048 + l.val)) n (scan _ n)).1 ∧ _ = BitVec.ofNat 32 (pick (fun c => points P i (rowOf g r) (c * 2048 + l.val)) n (scan _ n)).2
    unfold pick
    dsimp only
    split <;> exact ⟨rfl, rfl⟩

/-- What a group yields: the winners of its rows. -/
theorem group_wins {P : Weights} {x : S49x32x2048.Idx → EReal} (hx : Recips P x) {lo hi : Words} {i : ℕ} (hi4 : i < 4096)
    {g : Fin 4} (h : Counts lo hi i g) (s : ℕ → (S8x2048.Idx → EReal) × Words)
    (h0 : s 0 = (fun _ => ⊤, fun _ => 0#32))
    (hs : ∀ k : Fin 49, s (k.val + 1) = tileStep lo hi (BitVec.ofNat 32 k.val) (rowTile x g k) (s k.val)) (r : Fin 8) :
    ∃ k, Wins P i (rowOf g r) k ∧ k1_pay172 (F := Ideal) laneNo (s 49).1 (s 49).2 (ix1 r) = BitVec.ofNat 32 k := by
  have hst := scan_tile hx hi4 h s h0 hs 49 le_rfl r
  obtain ⟨k, h1, h2⟩ := winner_first (points P i (rowOf g r)) (s 49).1 (s 49).2 r (fun l => (hst l).1) (fun l => (hst l).2)
  exact ⟨k, wins_of_padded (by norm_num) h1, h2⟩

end Cert.KernelValue
-- ==== Proof.KernelOut.lean ====
/-
  What one point of the sampling grid leaves: for each of the 32 rows, the place that wins the row's race.
-/
module

public import proofs.«01_k».proof.Proof.Counts
public import proofs.«01_k».proof.Proof.Gen.KernelIdeal.Frame
public import Idealize.ShloMosaic.Lib.Tactic

@[expose] public section

set_option maxRecDepth 16384

noncomputable section

namespace Cert.KernelValue

open Idealize.ShloMosaic Idealize.ShloMosaic.TcCoe Cert.KernelIdeal Cert.KernelIdeal.Gen Idealize.ShloMosaic.ValueIdx Cert.Race Cert.Game

theorem hz3 : (![0, 0, 0] : Fin 3 → Nat) = fun _ => 0 := funext fun a => by fin_cases a <;> rfl

/-- Four groups of eight laid side by side: entry `b` is entry `b mod 8` of group `b / 8`. -/
theorem joined (f : Fin 4 → IVec S8 32) (b : Fin 32) (g : Fin 4) (r : Fin 8) (hb : b.val = 8 * g.val + r.val) :
    shapeCast S1x1x32 (concatenate S32 0 [⟨S8, f 0⟩, ⟨S8, f 1⟩, ⟨S8, f 2⟩, ⟨S8, f 3⟩] concatenates_S8_S8_S8_S8_S32_d0) shapeCasts_S32_S1x1x32
      (ix3 (0 : Fin 1) (0 : Fin 1) b) = f g (ix1 r) := by
  have hr := r.isLt
  refine (shapeCast_apply _ _ _ (ix1 b) ?_).trans ?_
  · rw [Shape.rowMajor_val_one, Shape.rowMajor_val_three]
    show b.val = (0 * 1 + 0) * 32 + b.val
    omega
  · exact concatenate_ofFn_apply (t := S32) (s₁ := S8) 0 f concatenates_S8_S8_S8_S8_S32_d0 rfl 8 rfl (ix1 b) g
      (by show b.val / 8 = g.val; omega) (ix1 r) (by show r.val = b.val % 8; omega) (by intro a h; fin_cases a; exact absurd rfl h)

/-- The stored vector is the four groups' results side by side. -/
theorem packed (F₀ F₁ F₂ F₃ : FVec Ideal S8x2048 .f32) (C₀ C₁ C₂ C₃ : Words) :
    k1_pay1 (F := Ideal) (k1_pay160 F₀ C₀) (k1_pay172 laneNo F₁ C₁) (k1_pay183 laneNo F₂ C₂) F₃ (k1_pay194 laneNo C₃) (k1_pay195 F₃)
      = shapeCast S1x1x32 (concatenate S32 0 [⟨S8, k1_pay172 laneNo F₀ C₀⟩, ⟨S8, k1_pay172 laneNo F₁ C₁⟩,
          ⟨S8, k1_pay172 laneNo F₂ C₂⟩, ⟨S8, k1_pay172 laneNo F₃ C₃⟩] concatenates_S8_S8_S8_S8_S32_d0) shapeCasts_S32_S1x1x32 := rfl

section
variable (c : Dev nD) (i : grid1.Coords) (arg1 : Memref sig .tc .vmem S49x32x2048 .f32) (harg1 : arg1.IsWhole)
  (arg2 : Memref sig .tc .vmem S1x1x32 .i32) (harg2 : arg2.IsWhole) (x : Vec Ideal S49x32x2048 .f32)

/-- The grid's number of the sample, as a word. -/
abbrev sampleNo : BitVec 32 := BitVec.ofNat 32 (i 0).val

/-- The score and step tiles of a group after `n` trips of its loop. -/
def tiles : Fin 4 → ℕ → (S8x2048.Idx → EReal) × Words
  | 0 => st_k1_t1 (F := Ideal) Variants.none c none i arg1 harg1 arg2 harg2 (harg1.unread x) (k1_pay154, k1_pay155)
  | 1 => st_k1_t2 (F := Ideal) Variants.none c none i arg1 harg1 arg2 harg2 (sampleNo i) laneNo rowNo (k1_pay161 i) k1_pay162
      (harg1.unread x) (k1_pay166, k1_pay167)
  | 2 => st_k1_t3 (F := Ideal) Variants.none c none i arg1 harg1 arg2 harg2 (sampleNo i) laneNo rowNo
      (k1_pay175 (sampleNo i) laneNo rowNo) (k1_pay176 (sampleNo i) laneNo rowNo) k1_pay177 0#32
      (harg1.unread x) (k1_pay177, k1_pay178 0#32)
  | 3 => st_k1_t4 (F := Ideal) Variants.none c none i arg1 harg1 arg2 harg2 (sampleNo i) laneNo rowNo
      (k1_pay175 (sampleNo i) laneNo rowNo) (k1_pay176 (sampleNo i) laneNo rowNo) k1_pay177 0#32
      (harg1.unread x) (k1_pay188, k1_pay189)

/-- The low words a group counts from. -/
def lows : Fin 4 → Words
  | 0 => k1_pay152 i
  | 1 => k1_pay164 laneNo (k1_pay161 i)
  | 2 => k1_pay175 (sampleNo i) laneNo rowNo
  | 3 => k1_pay186 (sampleNo i) laneNo rowNo

/-- The high words a group counts from. -/
def highs : Fin 4 → Words
  | 0 => k1_pay153 i
  | 1 => k1_pay165 laneNo (k1_pay161 i) k1_pay162
  | 2 => k1_pay176 (sampleNo i) laneNo rowNo
  | 3 => k1_pay187 (sampleNo i) laneNo rowNo

theorem counts (g : Fin 4) : Counts (lows i g) (highs i g) (i 0).val g :=
  match g with
  | 0 => counts1 i
  | 1 => counts2 i
  | 2 => counts3 i
  | 3 => counts4 i

/-- Every loop starts from infinite scores and step zero. -/
theorem tiles_zero (g : Fin 4) : tiles c i arg1 harg1 arg2 harg2 x g 0 = (fun _ => ⊤, fun _ => 0#32) := by
  have h : (fun _ => Ideal.ofBits .f32 0x7F800000#32 : S8x2048.Idx → EReal) = fun _ => ⊤ := funext fun _ => ofBits_top
  refine Eq.trans ?_ (Prod.ext h rfl : ((fun _ => Ideal.ofBits .f32 0x7F800000#32 : S8x2048.Idx → EReal), (fun _ => 0#32 : Words)) = _)
  match g with
  | 0 => rfl
  | 1 => rfl
  | 2 => rfl
  | 3 => rfl

/-- Every trip is one step. -/
theorem tiles_succ (g : Fin 4) (k : Fin 49) : tiles c i arg1 harg1 arg2 harg2 x g (k.val + 1)
    = tileStep (lows i g) (highs i g) (BitVec.ofNat 32 k.val) (rowTile x g k) (tiles c i arg1 harg1 arg2 harg2 x g k.val) := by
  match g with
  | 0 => exact (st_k1_t1_succ (F := Ideal) _ _ _ _ _ _ _ _ _ _ (k.cast trips1.symm)).trans (trip1 ..)
  | 1 => exact (st_k1_t2_succ (F := Ideal) _ _ _ _ _ _ _ _ _ _ _ _ _ _ _ (k.cast trips2.symm)).trans (trip2 ..)
  | 2 => exact (st_k1_t3_succ (F := Ideal) _ _ _ _ _ _ _ _ _ _ _ _ _ _ _ _ _ (k.cast trips3.symm)).trans (trip3 ..)
  | 3 => exact (st_k1_t4_succ (F := Ideal) _ _ _ _ _ _ _ _ _ _ _ _ _ _ _ _ _ (k.cast trips4.symm)).trans (trip4 ..)

/-- What the point leaves: the four groups' results side by side. -/
theorem out_eq : out1_A_1 (F := Ideal) c i arg1 harg1 arg2 harg2 x
    = shapeCast S1x1x32 (concatenate S32 0 [
        ⟨S8, k1_pay172 (F := Ideal) laneNo (tiles c i arg1 harg1 arg2 harg2 x 0 49).1 (tiles c i arg1 harg1 arg2 harg2 x 0 49).2⟩,
        ⟨S8, k1_pay172 (F := Ideal) laneNo (tiles c i arg1 harg1 arg2 harg2 x 1 49).1 (tiles c i arg1 harg1 arg2 harg2 x 1 49).2⟩,
        ⟨S8, k1_pay172 (F := Ideal) laneNo (tiles c i arg1 harg1 arg2 harg2 x 2 49).1 (tiles c i arg1 harg1 arg2 harg2 x 2 49).2⟩,
        ⟨S8, k1_pay172 (F := Ideal) laneNo (tiles c i arg1 harg1 arg2 harg2 x 3 49).1 (tiles c i arg1 harg1 arg2 harg2 x 3 49).2⟩]
        concatenates_S8_S8_S8_S8_S32_d0) shapeCasts_S32_S1x1x32 := by
  unfold out1_A_1
  rw [View.read_writes_eq_canon _ _ _ (cover1_A_1 (F := Ideal) c i arg1 harg1 arg2 harg2 x)]
  unfold kernelRun1_A
  dsimp only
  rw [View.canon_unit_zero hz3]
  sl_unfold_words
  have t : Scf.trips k1_t1_loop.lb k1_t1_loop.ub k1_t1_loop.st = 49 := trips1
  rw [t]
  dsimp only [tiles]
  exact packed ..

/-- What the point leaves for row `b` is the place that wins the row's race. -/
theorem out_wins {P : Weights} (hx : Recips P x) (b : Fin 32) : ∃ k, Wins P (i 0).val b k
    ∧ out1_A_1 (F := Ideal) c i arg1 harg1 arg2 harg2 x (ix3 (0 : Fin 1) (0 : Fin 1) b) = BitVec.ofNat 32 k := by
  have hb := b.isLt
  obtain ⟨k, h1, h2⟩ := group_wins hx (i 0).isLt (counts i ⟨b.val / 8, by omega⟩) (tiles c i arg1 harg1 arg2 harg2 x ⟨b.val / 8, by omega⟩)
    (tiles_zero c i arg1 harg1 arg2 harg2 x _) (tiles_succ c i arg1 harg1 arg2 harg2 x _) ⟨b.val % 8, by omega⟩
  have e : rowOf ⟨b.val / 8, by omega⟩ ⟨b.val % 8, by omega⟩ = b := Fin.ext (by show 8 * (b.val / 8) + b.val % 8 = b.val; omega)
  rw [e] at h1
  refine ⟨k, h1, ?_⟩
  rw [out_eq, ← h2]
  exact joined (fun g => k1_pay172 (F := Ideal) laneNo (tiles c i arg1 harg1 arg2 harg2 x g 49).1 (tiles c i arg1 harg1 arg2 harg2 x g 49).2)
    b _ _ (by show b.val = 8 * (b.val / 8) + b.val % 8; omega)
end

end Cert.KernelValue
-- ==== Proof.KernelPrefix.lean ====
/-
  Before the sampling grid: the weights padded with zeros, regrouped into chunks, and their reciprocals.
-/
module

public import proofs.«01_k».proof.Proof.Counts
public import proofs.«01_k».proof.Proof.KernelOut
public import proofs.«01_k».proof.Proof.Gen.KernelIdeal.Frame
public import Idealize.ShloMosaic.Lib.KernelVsHost
public import Idealize.ShloMosaic.Lib.Pipeline.Value
public import Idealize.ShloMosaic.Lib.Tactic

@[expose] public section

set_option maxRecDepth 16384

noncomputable section

namespace Cert.KernelValue

open Idealize.ShloMosaic Idealize.ShloMosaic.TcCoe Idealize.ShloMosaic.StableHlo Cert.KernelIdeal Cert.KernelIdeal.Gen
open Idealize.ShloMosaic.ValueIdx Cert.Race Cert.Game
open Idealize.ShloMosaic.Pipeline (Dat)

variable (m : (ℓ : Loc nD τ sig) → Buf (Elt Ideal) ℓ) (ρ : Dev nD → PrngReg) (c : Dev nD)

/-- The weights as launched. -/
abbrev given : Weights := m ((c.tc : Thread nD τ).loc main_arg0)

/-- The number the padding is filled with. -/
theorem filler : W2 (F := Ideal) m ρ c (Proc.devRef .tc main_call0_v0) = fun _ => (0 : EReal) := by
  show StableHlo.after hostOps0_1 (W1 m ρ c) _ = _
  rw [StableHlo.after_cons, StableHlo.after_cons, StableHlo.after_nil]
  rw [StableHlo.binary_result_ne (h := by decide)]
  refine (StableHlo.unary_result' ..).trans ?_
  have h1 : W1 (F := Ideal) m ρ c (Proc.devRef .tc main_c) = constantI S_ 32 0#32 := by
    show StableHlo.after hostOps0 (W0 m ρ c) _ = _
    rw [StableHlo.after_cons, StableHlo.after_nil]
    exact StableHlo.nullary_result' ..
  rw [h1]
  funext j
  show ((((0#32 : BitVec 32).toInt : ℤ) : ℝ) : EReal) = 0
  simp

/-- The padded weights. -/
theorem padded : W2 (F := Ideal) m ρ c (Proc.devRef .tc main_v0)
    = pad S32x100352 ![0, 0] ![0, 352] ![0, 0] (given m c) (fun _ : S_.Idx => (0 : EReal)) pads_S32x100000_S32x100352_000_03520 h_S_ := by
  have hf := filler m ρ c
  have h0 : W1 (F := Ideal) m ρ c (Proc.devRef .tc main_arg0) = given m c := W1_args m ρ c main_arg0 (by decide)
  revert hf
  show StableHlo.after hostOps0_1 (W1 m ρ c) _ = _ → StableHlo.after hostOps0_1 (W1 m ρ c) _ = _
  rw [StableHlo.after_cons, StableHlo.after_cons, StableHlo.after_nil]
  rw [StableHlo.binary_result_ne (h := by decide)]
  intro hf
  refine (StableHlo.binary_result' ..).trans ?_
  rw [hf, StableHlo.unary_result_ne (h := by decide), h0]
  rfl

theorem padded_apply (b : Fin 32) (v : Fin 100352) :
    W2 (F := Ideal) m ρ c (Proc.devRef .tc main_v0) (ix2 b v) = weight (given m c) b v.val := by
  rw [padded]
  unfold weight
  by_cases h : v.val < 100000
  · rw [dif_pos h]
    exact pad_apply_of_inside _ _ _ _ _ _ _ _ (ix2 b (⟨v.val, h⟩ : Fin 100000)) (by
      intro a
      match a with
      | ⟨0, _⟩ => show b.val = 0 + b.val * (0 + 1); omega
      | ⟨1, _⟩ => show v.val = 0 + v.val * (0 + 1); omega)
  · rw [dif_neg h]
    exact pad_apply_of_not_inside _ _ _ _ _ _ _ _ (1 : Fin 2) (by
      intro hin
      have e : (v.val - 0) / (0 + 1) < 100000 := hin.2.2
      omega)

/-- The chunks of weights: chunk `k`, row `b`, lane `l` holds the weight at place `2048·k + l`. -/
theorem chunks_apply (k : Fin 49) (b : Fin 32) (l : Fin 2048) :
    W3 (F := Ideal) m ρ c (Proc.devRef .tc main_v2) (ix3 k b l) = weight (given m c) b (k.val * 2048 + l.val) := by
  have hk := k.isLt
  have hl := l.isLt
  have e : W3 (F := Ideal) m ρ c (Proc.devRef .tc main_v2)
      = transpose S49x32x2048 [1, 0, 2] (shapeCast S32x49x2048 (W2 (F := Ideal) m ρ c (Proc.devRef .tc main_v0)) shapeCasts_S32x100352_S32x49x2048)
          transposes_S32x49x2048_S49x32x2048_1_0_2 := by
    show StableHlo.after hostOps0_2 (W2 m ρ c) _ = _
    rw [StableHlo.after_cons, StableHlo.after_cons, StableHlo.after_nil]
    refine (StableHlo.unary_result' ..).trans ?_
    rw [StableHlo.reshape_result']
    rfl
  rw [e]
  refine (transpose_apply _ _ _ (ix3 k b l) (ix3 b k l) ?_).trans ?_
  · intro a; fin_cases a <;> rfl
  refine (shapeCast_apply _ _ _ (ix2 b (⟨k.val * 2048 + l.val, by omega⟩ : Fin 100352)) ?_).trans (padded_apply ..)
  rw [Shape.rowMajor_val_two, Shape.rowMajor_val_three]
  show b.val * 100352 + (k.val * 2048 + l.val) = (b.val * 49 + k.val) * 2048 + l.val
  omega

end Cert.KernelValue
-- ==== Proof.KernelMem.lean ====
/-
  The buffers after the run: the reciprocals, then the index drawn at every grid point.
-/
module

public import proofs.«01_k».proof.Proof.KernelPrefix
public import Idealize.ShloMosaic.Lib.Pipeline.ValueKit.Geometry

@[expose] public section

set_option maxRecDepth 16384

noncomputable section

namespace Cert.KernelValue

open Idealize.ShloMosaic Idealize.ShloMosaic.TcCoe Idealize.ShloMosaic.StableHlo Cert.KernelIdeal Cert.KernelIdeal.Gen
open Idealize.ShloMosaic.ValueIdx Cert.Race Cert.Game
open Idealize.ShloMosaic.Pipeline (Dat)

variable (V : (c : Dev nD) → (b : Ref sig .tc) → Buf (Elt Ideal) ((c : Thread nD τ).loc b))

/-! ## The first call: reciprocals -/

/-- What the first kernel stores, at an index: one divided by what it read there. -/
theorem out0_apply (x : Vec Ideal S49x32x2048 .f32) (j : S49x32x2048.Idx) : out0_1 (F := Ideal) x j = Ideal.div 1 (x j) := by
  unfold out0_1
  rw [View.canon_unit_zero hz3]
  unfold r0_0
  rw [View.ld_unit_zero (S := S49x32x2048) hz3]
  unfold k0_pay1
  rw [shapeCast_self]
  show Ideal.div (Ideal.ofBits .f32 0x3F800000#32) (x j) = _
  rw [Idealize.ShloMosaic.Ideal.ofBits_one_f32]

/-- The block of the first call is its array. -/
theorem place0 (t : Fin cfg0.N) (j : S49x32x2048.Idx) : ((cfg0.win 0).blk t).view.emb j = j := by
  funext a; apply Fin.ext
  match a with
  | ⟨0, _⟩ => show 0 * 49 + 1 * (j 0).val = (j 0).val; omega
  | ⟨1, _⟩ => show 0 * 32 + 1 * (j 1).val = (j 1).val; omega
  | ⟨2, _⟩ => show 0 * 2048 + 1 * (j 2).val = (j 2).val; omega

theorem place0' (t : Fin cfg0.N) (j : S49x32x2048.Idx) : ((cfg0.win 1).blk t).view.emb j = j := place0 t j

theorem block0 (c : Dev nD) (t : Fin cfg0.N) : iblk0 (F := Ideal) V c 0 t = V c main_v2 := by
  funext j
  show V c main_v2 (((cfg0.win 0).blk t).view.emb j) = V c main_v2 j
  rw [place0]

/-- The block that is written back holds every index of the array. -/
theorem covered0 (i : S49x32x2048.Idx) : ∃ t : Fin cfg0.N, (cfg0.win 1).flush t = true ∧ i ∈ ((cfg0.win 1).blk t).view.set :=
  ⟨t0_0, flush0_1 t0_0, by
    have h := ((cfg0.win 1).blk t0_0).view.emb_mem_set i
    rwa [place0'] at h⟩

/-- Whatever is stored over the whole array is, cut at the block, its reading through the block. -/
theorem cut0 (t : Fin cfg0.N) (X : Vec Ideal S49x32x2048 .f32) :
    (cfg0.win 1).cut (grid0.coords t) X = ((cfg0.win 1).blk t).view.read (Elt Ideal) X := by
  funext j
  show X j = X (((cfg0.win 1).blk t).view.emb j)
  rw [place0']

theorem flushed0 (c : Dev nD) (t : Fin cfg0.N) : (dat0 (F := Ideal) V c).flushed 1 t
    = ((cfg0.win 1).blk t).view.read (Elt Ideal) (fun i : S49x32x2048.Idx => Ideal.div 1 (V c main_v2 i)) := by
  show (cfg0.win 1).cut (grid0.coords t) ((dat0 (F := Ideal) V c).after 1 t) = _
  rw [after0_1, block0, show out0_1 (F := Ideal) (V c main_v2) = fun i : S49x32x2048.Idx => Ideal.div 1 (V c main_v2 i) from
    funext (out0_apply (V c main_v2))]
  exact cut0 t _

/-- The first call's result, from what its operand holds when it starts. -/
theorem recips_of (c : Dev nD) : (dat0 (F := Ideal) V c).arrAt 1 cfg0.N = fun i : S49x32x2048.Idx => Ideal.div 1 (V c main_v2 i) :=
  (dat0 (F := Ideal) V c).arrAt_eq_of_cover 1 _ (fun t _ => flushed0 V c t) covered0

/-! ## The second call: the draws -/

/-- The second call reads the reciprocals whole at every point. -/
theorem place1 (t : Fin cfg1.N) (j : S49x32x2048.Idx) : ((cfg1.win 0).blk t).view.emb j = j := by
  funext a; apply Fin.ext
  match a with
  | ⟨0, _⟩ => show 0 * 49 + 1 * (j 0).val = (j 0).val; omega
  | ⟨1, _⟩ => show 0 * 32 + 1 * (j 1).val = (j 1).val; omega
  | ⟨2, _⟩ => show 0 * 2048 + 1 * (j 2).val = (j 2).val; omega

theorem block1 (c : Dev nD) (t : Fin cfg1.N) : iblk1 (F := Ideal) V c 0 t = V c main_v3 := by
  funext j
  show V c main_v3 (((cfg1.win 0).blk t).view.emb j) = V c main_v3 j
  rw [place1]

/-- Row `n` of the array of draws is written at point `n`: element `b` of the block lands at `(n, 0, b)`. -/
theorem place1' (t : Fin cfg1.N) (y : S1x1x32.Idx) :
    ((cfg1.win 1).blk t).view.emb y = (ix3 (⟨(grid1.coords t 0).val, (grid1.coords t 0).isLt⟩ : Fin 4096) (0 : Fin 1) (y 2) : S4096x1x32.Idx) := by
  have h0 : (y 0).val < 1 := (y 0).isLt
  have h1 : (y 1).val < 1 := (y 1).isLt
  have hg : (grid1.coords t 0).val < 4096 := (grid1.coords t 0).isLt
  funext a; apply Fin.ext
  match a with
  | ⟨0, _⟩ =>
    show (BitVec.ofNat 32 (grid1.coords t 0).val).toNat * 1 + 1 * (y 0).val = (grid1.coords t 0).val
    rw [BitVec.toNat_ofNat]; omega
  | ⟨1, _⟩ => show 0 * 1 + 1 * (y 1).val = 0; omega
  | ⟨2, _⟩ => show 0 * 32 + 1 * (y 2).val = (y 2).val; omega

/-- The second call's result, from the reciprocals it reads: every element is an index that wins. -/
theorem drawn_of (c : Dev nD) {P : Weights} (hx : Recips P (V c main_v3)) (i : S4096x1x32.Idx) :
    ∃ k, Wins P (i 0).val (i 2) k ∧ (dat1 (F := Ideal) V c).arrAt 1 cfg1.N i = BitVec.ofNat 32 k := by
  refine (dat1 (F := Ideal) V c).arrAt_forall_of_covers 1
    (fun (i : S4096x1x32.Idx) (v : BitVec 32) => ∃ k, Wins P (i 0).val (i 2) k ∧ v = BitVec.ofNat 32 k) (by decide +kernel) (fun t _ y => ?_) i
  rw [after1_1]
  unfold outsAt1
  rw [block1]
  obtain ⟨k, hk, e⟩ := out_wins c (grid1.coords t) (ms1_0 t) (hs1_0 t) (ms1_1 t) (hs1_1 t) (V c main_v3) hx (y 2)
  refine ⟨k, ?_, Eq.trans ?_ e⟩
  · rw [show ((cfg1.win 1).blk t).view.emb y = _ from place1' t y]
    exact hk
  · have hy : (y : S1x1x32.Idx) = ix3 (0 : Fin 1) (0 : Fin 1) (y 2) := by
      have h0 : (y 0).val < 1 := (y 0).isLt
      have h1 : (y 1).val < 1 := (y 1).isLt
      funext a; apply Fin.ext
      match a with
      | ⟨0, _⟩ => show (y 0).val = 0; omega
      | ⟨1, _⟩ => show (y 1).val = 0; omega
      | ⟨2, _⟩ => rfl
    exact congrArg (out1_A_1 (F := Ideal) c (grid1.coords t) (ms1_0 t) (hs1_0 t) (ms1_1 t) (hs1_1 t) (V c main_v3)) hy

/-! ## Along the run -/

variable (m : (ℓ : Loc nD τ sig) → Buf (Elt Ideal) ℓ) (ρ : Dev nD → PrngReg) (c : Dev nD)

/-- The reciprocals of the chunks of weights. -/
theorem recips : Recips (given m c) (W4 (F := Ideal) m ρ c (Proc.devRef .tc main_v3)) := by
  intro k b l
  rw [← chunks_apply m ρ c k b l]
  exact congrFun ((W4_arr (F := Ideal) m ρ c 1).trans (recips_of (V3 m ρ) c)) (ix3 k b l)

/-- Every element of the array of draws is an index that wins. -/
theorem drawn (n : Fin 4096) (b : Fin 32) :
    ∃ k, Wins (given m c) n.val b k ∧ W5 (F := Ideal) m ρ c (Proc.devRef .tc main_v4) (ix3 n (0 : Fin 1) b) = BitVec.ofNat 32 k := by
  obtain ⟨k, hk, e⟩ := drawn_of (V4 m ρ) c (recips m ρ c) (ix3 n (0 : Fin 1) b)
  exact ⟨k, hk, (congrFun (W5_arr (F := Ideal) m ρ c 1) (ix3 n (0 : Fin 1) b)).trans e⟩

/-- Every element of the result is an index that wins. -/
theorem result (n : Fin 4096) (b : Fin 32) :
    ∃ k, Wins (given m c) n.val b k ∧ W6 (F := Ideal) m ρ c (Proc.devRef .tc main_v5) (ix2 n b) = BitVec.ofNat 32 k := by
  obtain ⟨k, hk, e⟩ := drawn m ρ c n b
  refine ⟨k, hk, Eq.trans ?_ e⟩
  have h : W6 (F := Ideal) m ρ c (Proc.devRef .tc main_v5)
      = shapeCast S4096x32 (W5 (F := Ideal) m ρ c (Proc.devRef .tc main_v4)) shapeCasts_S4096x1x32_S4096x32 := by
    show StableHlo.after hostOps2 (W5 m ρ c) _ = _
    rw [StableHlo.after_cons, StableHlo.after_nil, StableHlo.reshape_result']
    rfl
  rw [h]
  refine shapeCast_apply _ _ _ (ix3 n (0 : Fin 1) b) ?_
  rw [Shape.rowMajor_val_two, Shape.rowMajor_val_three]
  show (n.val * 1 + 0) * 32 + b.val = n.val * 32 + b.val
  omega

end Cert.KernelValue
-- ==== Proof.KernelRun.lean ====
/-
  The kernel's run, with what its result buffer holds at the end.
-/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel finishes on every schedule; its result buffer then holds what the last host operation leaves there,
    and its argument is as launched. -/
theorem run : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c => ⟨h c _ (mem_uc main_v5 (by decide)),
      (h c _ (mem_uc main_arg0 (by decide))).trans (W6_main_arg0 m ρ c)⟩)

end Cert.KernelRun
-- ==== Proof.RefWords.lean ====
/-
  The reference's random numbers at the end of a run: each buffer entry of the draw is the cipher's word at that entry's
  position, read as a number in [0, 1).
-/
module

public import proofs.«01_k».proof.Proof.RefRun
public import proofs.«01_k».proof.Proof.Rng
public import Idealize.ShloMosaic.Lib.ValueIdx
public import Idealize.ShloMosaic.Lib.Pipeline.Value

@[expose] public section

set_option maxRecDepth 16384

noncomputable section

namespace Cert.RefRun

open Idealize.ShloMosaic Idealize.ShloMosaic.StableHlo Idealize.SL.Sem Cert.Line Cert.ReferenceIdeal
open Idealize.ShloMosaic.ValueIdx
open Cert.ReferenceIdeal.Facts₀ Cert.ReferenceIdeal.Facts

variable [Facts]

/-- The contents of the reference's buffers. -/
abbrev Vals := Valuation τ sig (Elt Ideal)

theorem shl_host (x k : BitVec 32) (h : k.toNat < 32) : IntOp.shli .host x k = x <<< k.toNat := if_pos h
theorem shr_host (x k : BitVec 32) (h : k.toNat < 32) : IntOp.shrui .host x k = x >>> k.toNat := if_pos h

/-- A single value spread over the whole shape is that value at every place. -/
theorem spread {α : Type} (h : S_.BroadcastsInDim S4096x32x100000 ![]) (x : S_.Idx → α) (j : S4096x32x100000.Idx) :
    broadcastInDim S4096x32x100000 ![] h x j = x ix0 := broadcastInDim_scalar_apply h x j

/-- A round's equations say that it is one round of the cipher at every place. -/
theorem round_eqs {W : Vals} {x0 x1 s : Words} {c : Word} {b l : Words} {c' : Word} {b' r o y : Words} {k k' : BitVec 32}
    (h : Eqs W (roundOps x0 x1 s c b l c' b' r o y k k')) (hk : k.toNat < 32) (hk' : k'.toNat < 32)
    (j : S4096x32x100000.Idx) : (rd W s j, rd W y j) = Rng.round k k' (rd W x0 j, rd W x1 j) := by
  unfold roundOps at h
  simp only [eqs_cons, eqs_nil, and_true, sat_nullary, sat_unary, sat_binary] at h
  obtain ⟨h1, h2, h3, h4, h5, h6, h7, h8, h9⟩ := h
  have e1 : rd W s j = rd W x0 j + rd W x1 j := by rw [h1]; rfl
  have e2 : rd W l j = rd W x1 j <<< k.toNat := by
    rw [h4, h3, h2]; show IntOp.shli .host _ (broadcastInDim _ _ _ _ j) = _
    rw [spread]; exact shl_host _ _ hk
  have e3 : rd W r j = rd W x1 j >>> k'.toNat := by
    rw [h7, h6, h5]; show IntOp.shrui .host _ (broadcastInDim _ _ _ _ j) = _
    rw [spread]; exact shr_host _ _ hk'
  have e4 : rd W y j = rd W s j ^^^ (rd W l j ||| rd W r j) := by rw [h9, h8]; rfl
  rw [e4, e1, e2, e3]; rfl

/-- A key step's equations say that it is one key step of the cipher at every place. -/
theorem key_eqs {W : Vals} {x0 x1 : Words} {ka : Word} {bka y0 : Words} {kb : Word} {bkb t : Words} {c : Word} {b y1 : Words}
    {n : BitVec 32} (h : Eqs W (keyOps x0 x1 ka bka y0 kb bkb t c b y1 n)) (j : S4096x32x100000.Idx) :
    (rd W y0 j, rd W y1 j) = Rng.inject (rd W ka ix0) (rd W kb ix0) n (rd W x0 j, rd W x1 j) := by
  unfold keyOps at h
  simp only [eqs_cons, eqs_nil, and_true, sat_nullary, sat_unary, sat_binary] at h
  obtain ⟨h1, h2, h3, h4, h5, h6, h7⟩ := h
  have e1 : rd W y0 j = rd W x0 j + rd W ka ix0 := by
    rw [h2, h1]; show _ + broadcastInDim _ _ _ _ j = _; rw [spread]
  have e2 : rd W y1 j = rd W x1 j + rd W kb ix0 + n := by
    rw [h7, h6, h5, h4, h3]; show _ + broadcastInDim _ _ _ _ j + broadcastInDim _ _ _ _ j = _
    rw [spread, spread]; rfl
  rw [e1, e2]; rfl

/-- The cipher's equations say that its results are the cipher of its operands at every place. -/
theorem cipher_eqs {W : Vals} {a0 a1 : Word} {a2 a3 : Words} {φ : fn_threefry2x32.Bufs}
    (h : Eqs W (threefryOps a0 a1 a2 a3 φ)) (j : S4096x32x100000.Idx) :
    (rd W φ.v171 j, rd W φ.v175 j) = Rng.cipher (rd W a0 ix0) (rd W a1 ix0) (rd W a0 ix0 ^^^ rd W a1 ix0 ^^^ 466688986#32)
      (rd W a2 j, rd W a3 j) := by
  unfold threefryOps cipherOps at h
  simp only [eqs_append] at h
  obtain ⟨h0, ⟨⟨⟨⟨⟨⟨⟨⟨⟨⟨⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩, h16⟩,
    h17⟩, h18⟩, h19⟩, h20⟩, h21⟩, h22⟩, h23⟩, h24⟩, h25⟩⟩ := h
  unfold openOps at h0
  simp only [eqs_cons, eqs_nil, and_true, sat_nullary, sat_unary, sat_binary] at h0
  obtain ⟨g1, g2, g3, g4, g5, g6, g7⟩ := h0
  have ec : rd W φ.v1 ix0 = rd W a0 ix0 ^^^ rd W a1 ix0 ^^^ 466688986#32 := by rw [g3, g2, g1]; rfl
  have e0 : rd W φ.v3 j = rd W a2 j + rd W a0 ix0 := by rw [g5, g4]; show _ + broadcastInDim _ _ _ _ j = _; rw [spread]
  have e1 : rd W φ.v5 j = rd W a3 j + rd W a1 ix0 := by rw [g7, g6]; show _ + broadcastInDim _ _ _ _ j = _; rw [spread]
  have r {x0 x1 s : Words} {c : Word} {b l : Words} {c' : Word} {b' r o y : Words} {k k' : BitVec 32}
    (h : Eqs W (roundOps x0 x1 s c b l c' b' r o y k k')) (hk : k.toNat < 32 ∧ k'.toNat < 32) := round_eqs h hk.1 hk.2 j
  rw [key_eqs h25 j, r h24 (by decide), r h23 (by decide), r h22 (by decide), r h21 (by decide),
    key_eqs h20 j, r h19 (by decide), r h18 (by decide), r h17 (by decide), r h16 (by decide),
    key_eqs h15 j, r h14 (by decide), r h13 (by decide), r h12 (by decide), r h11 (by decide),
    key_eqs h10 j, r h9 (by decide), r h8 (by decide), r h7 (by decide), r h6 (by decide),
    key_eqs h5 j, r h4 (by decide), r h3 (by decide), r h2 (by decide), r h1 (by decide), ec, e0, e1]
  rfl

end Cert.RefRun
-- ==== Proof.RefDraw.lean ====
/-
  The reference's uniform draw at the end of a run, entry by entry: the fraction its position's random word stands for.
-/
module

public import proofs.«01_k».proof.Proof.RefWords
public import Idealize.ShloMosaic.Lib.IdealHost

@[expose] public section

set_option maxRecDepth 16384

noncomputable section

namespace Cert.RefRun

open Idealize.ShloMosaic Idealize.ShloMosaic.StableHlo Idealize.SL.Sem Cert.Line Cert.ReferenceIdeal
open Idealize.ShloMosaic.ValueIdx
open Cert.ReferenceIdeal.Facts₀ Cert.ReferenceIdeal.Facts

variable [Facts]

/-- The position of an entry in row-major order. -/
def pos (j : S4096x32x100000.Idx) : ℕ := 3200000 * (j 0).val + 100000 * (j 1).val + (j 2).val

/-- The 64-bit position word. -/
theorem pos_word (j : S4096x32x100000.Idx) :
    3200000#64 * BitVec.ofNat 64 (j 0).val + 100000#64 * BitVec.ofNat 64 (j 1).val + 1#64 * BitVec.ofNat 64 (j 2).val
      = BitVec.ofNat 64 (pos j) := by
  unfold pos
  rw [BitVec.ofNat_add, BitVec.ofNat_add, BitVec.ofNat_mul, BitVec.ofNat_mul, BitVec.one_mul]

theorem pos_lt (j : S4096x32x100000.Idx) : pos j < 2 ^ 60 := by
  have h0 : (j 0).val < 4096 := (j 0).isLt
  have h1 : (j 1).val < 32 := (j 1).isLt
  have h2 : (j 2).val < 100000 := (j 2).isLt
  unfold pos; omega

theorem pos_low (j : S4096x32x100000.Idx) : BitVec.setWidth 32 (BitVec.ofNat 64 (pos j)) = BitVec.ofNat 32 (pos j) := by
  have := pos_lt j
  apply BitVec.eq_of_toNat_eq
  simp only [BitVec.toNat_setWidth, BitVec.toNat_ofNat]; omega

theorem pos_high (j : S4096x32x100000.Idx) :
    BitVec.setWidth 32 (BitVec.ofNat 64 (pos j) >>> 32) = BitVec.ofNat 32 (pos j / 2 ^ 32) := by
  have := pos_lt j
  apply BitVec.eq_of_toNat_eq
  simp only [BitVec.toNat_setWidth, BitVec.toNat_ofNat, BitVec.toNat_ushiftRight, Nat.shiftRight_eq_div_pow]; omega

/-- The draw's equations give each entry the fraction of its position's word, kept from below by zero. -/
theorem uniform_eqs {W : Vals} {a0 : TRef sig ⟨S2, .i32⟩} {a1 a2 : TRef sig ⟨S_, .f32⟩} {φ : fn_uniform.Bufs}
    (hc : Eqs W (counterOps a0 a1 a2 φ)) (ht : Eqs W (threefryOps φ.v5 φ.v7 φ.v22 φ.v21 φ.call0))
    (hf : Eqs W (fractionOps φ)) (k0 : rd W a0 (ix1 0) = 0#32) (k1 : rd W a0 (ix1 1) = 42#32)
    (l0 : rd W a1 ix0 = (0 : EReal)) (l1 : rd W a2 ix0 = (1 : EReal)) (j : S4096x32x100000.Idx) :
    rd W φ.v38 j = max (0 : EReal) (Ideal.ofBits .f32 (Rng.pattern (Rng.wordAt (pos j))) - 1) := by
  unfold counterOps at hc
  unfold fractionOps at hf
  simp only [eqs_cons, eqs_nil, and_true, sat_nullary, sat_unary, sat_binary, sat_reshape] at hc hf
  obtain ⟨c0, c1, c2, c3, c4, c5, c6, c7, c8, c9, c10, c11, c12, c13, c14, c15, c16, c17, c18, c19, c20, c21, c22, c23, c24,
    c25, c26⟩ := hc
  obtain ⟨f1, f2, f3, f4, f5, f6, f7, f8, f9, f10, f11, f12, f13, f14, f15, f16, f17, f18⟩ := hf
  have key0 : rd W φ.v5 ix0 = 0#32 := by
    rw [c5, c4]
    refine Eq.trans (congrArg (rd W a0) (funext fun a => Fin.ext ?_)) k0
    have := (Shape.reshapeEquiv shapeCasts_S1_S_ ix0 (a.cast rfl)).isLt
    obtain ⟨_ | n, ha⟩ := a
    · show 0 + _ = 0
      exact (Nat.zero_add _).trans (Nat.lt_one_iff.1 this)
    · exact absurd ha (by show ¬ n + 1 < 1; omega)
  have key1 : rd W φ.v7 ix0 = 42#32 := by
    rw [c7, c6]
    refine Eq.trans (congrArg (rd W a0) (funext fun a => Fin.ext ?_)) k1
    have := (Shape.reshapeEquiv shapeCasts_S1_S_ ix0 (a.cast rfl)).isLt
    obtain ⟨_ | n, ha⟩ := a
    · show 1 + _ = 1
      exact congrArg (1 + ·) (Nat.lt_one_iff.1 this)
    · exact absurd ha (by show ¬ n + 1 < 1; omega)
  have ctr : rd W φ.v18 j = BitVec.ofNat 64 (pos j) := by
    rw [c21, c20, c19, c18, c17, c16, c15, c14, c13, c12, c11, c10, c9, c8, ← pos_word]
    rfl
  have lo : rd W φ.v21 j = BitVec.ofNat 32 (pos j) := by
    rw [c25, ← pos_low, ← ctr]; rfl
  have hi : rd W φ.v22 j = BitVec.ofNat 32 (pos j / 2 ^ 32) := by
    rw [c26, c24, c23, c22, ← pos_high, ← ctr]
    show BitVec.setWidth 32 (IntOp.shrui .host _ (broadcastInDim _ _ _ _ j)) = _
    rw [spread]; rfl
  have e := cipher_eqs ht j
  rw [key0, key1, hi, lo] at e
  have bits : rd W φ.v24 j = Rng.wordAt (pos j) := by
    rw [f1]
    show rd W φ.call0.v171 j ^^^ rd W φ.call0.v175 j = _
    exact congrArg (fun s : Rng.W × Rng.W => s.1 ^^^ s.2) e
  have pat : rd W φ.v28 j = Rng.pattern (Rng.wordAt (pos j)) := by
    rw [f7, f6, f5, f4, f3, f2, ← bits]
    show IntOp.shrui .host _ (broadcastInDim _ _ _ _ j) ||| broadcastInDim _ _ _ _ j = _
    rw [spread, spread]; rfl
  have z2 : ∀ i, rd W φ.v2 i = (0 : EReal) := fun i => by
    rw [c2, c0, ← l0]; exact broadcastInDim_scalar_apply _ _ i
  have z3 : ∀ i, rd W φ.v3 i = (1 : EReal) := fun i => by
    rw [c3, c1, ← l1]; exact broadcastInDim_scalar_apply _ _ i
  have u31 : rd W φ.v31 j = Ideal.ofBits .f32 (Rng.pattern (Rng.wordAt (pos j))) - 1 := by
    rw [f11, f10, f9, f8, ← pat]
    show Ideal.ofBits .f32 _ - broadcastInDim _ _ _ _ j = _
    rw [spread]
    exact congrArg (_ - ·) Idealize.ShloMosaic.Ideal.ofBits_one_f32
  have u33 : rd W φ.v33 j = (1 : EReal) := by
    rw [f13, f12]
    show rd W φ.v3 _ - rd W φ.v2 _ = _
    rw [z3, z2]; exact sub_zero _
  have u35 : rd W φ.v35 j = (0 : EReal) := by rw [f15]; exact z2 _
  have u37 : rd W φ.v37 j = (0 : EReal) := by rw [f17]; exact z2 _
  rw [f18, f16, f14]
  show max (rd W φ.v37 j) (rd W φ.v31 j * rd W φ.v33 j + rd W φ.v35 j) = _
  rw [u37, u33, u35, u31]
  exact congrArg (max 0) ((add_zero _).trans (mul_one _))

end Cert.RefRun
-- ==== Proof.ArgFold.lean ====
/-
  The reference's maximum as a fold of pairs (value, position): it ends at the least position among those of the greatest
  value, whatever the order of the pairs.
-/
module

public import proofs.«01_k».proof.Proof.Gen.ReferenceIdeal
public import Idealize.ShloMosaic.PureOps.Ideal

@[expose] public section

noncomputable section

namespace Cert.ArgFold

open Idealize.ShloMosaic Cert.ReferenceIdeal

/-- A pair of a value and a position, the position as a word. -/
def asWord (p : EReal × ℕ) : Ideal .f32 × BitVec 32 := (p.1, BitVec.ofNat 32 p.2)

/-- The better of two pairs: the greater value, at equal values the lesser position. -/
def better (a b : EReal × ℕ) : EReal × ℕ := if b.1 < a.1 ∨ (a.1 = b.1 ∧ a.2 < b.2) then a else b

theorem slt_ofNat {a b : ℕ} (ha : a < 2 ^ 31) (hb : b < 2 ^ 31) :
    BitVec.slt (BitVec.ofNat 32 a) (BitVec.ofNat 32 b) = decide (a < b) := by
  have e {n : ℕ} (hn : n < 2 ^ 31) : (BitVec.ofNat 32 n).toInt = n := by
    rw [BitVec.toInt_eq_toNat_cond, BitVec.toNat_ofNat, Nat.mod_eq_of_lt (by omega), if_pos (by omega)]
  rw [BitVec.slt, e ha, e hb]
  simp

/-- The program's step on two pairs is `better`. -/
theorem reducer_eq {a b : EReal × ℕ} (ha : a.2 < 2 ^ 31) (hb : b.2 < 2 ^ 31) :
    reducer_argmax_f32_i32 (F := Ideal) (asWord a) (asWord b) = asWord (better a b) := by
  obtain ⟨x, n⟩ := a
  obtain ⟨y, k⟩ := b
  simp only at ha hb
  have h1 : FloatOps.cmpf (F := Ideal) (φ := .f32) .ogt x y = BitVec.ofBool (decide (y < x)) := rfl
  have h2 : FloatOps.cmpf (F := Ideal) (φ := .f32) .une x x = 0#1 := by
    show BitVec.ofBool (decide (x ≠ x)) = _; simp
  have h3 : FloatOps.cmpf (F := Ideal) (φ := .f32) .oeq x y = BitVec.ofBool (decide (x = y)) := rfl
  have h4 : IntOp.cmpi .slt (BitVec.ofNat 32 n) (BitVec.ofNat 32 k) = BitVec.ofBool (decide (n < k)) := by
    rw [← slt_ofNat ha hb]; rfl
  unfold reducer_argmax_f32_i32 asWord better
  simp only [h1, h2, h3, h4]
  rcases lt_trichotomy y x with h | h | h
  · simp [h, h.ne', IntOp.ori, IntOp.andi, Scalar.select]
  · subst h
    by_cases hnk : n < k <;> simp [hnk, IntOp.ori, IntOp.andi, Scalar.select]
  · simp [h.not_gt, h.ne, IntOp.ori, IntOp.andi, Scalar.select]

/-- THE FOLD from the pair (⊥, 0): its end is no worse than any pair of the list, and is one of them or the start. -/
theorem fold_spec : ∀ (l : List (EReal × ℕ)) (a : EReal × ℕ), a.2 < 2 ^ 31 → (∀ p ∈ l, p.2 < 2 ^ 31) →
    ∃ q : EReal × ℕ, (l.map asWord).foldl (reducer_argmax_f32_i32 (F := Ideal)) (asWord a) = asWord q
      ∧ (q = a ∨ q ∈ l) ∧ ∀ p ∈ a :: l, p.1 ≤ q.1 ∧ (p.1 = q.1 → q.2 ≤ p.2)
  | [], a, _, _ => ⟨a, rfl, .inl rfl, by simp⟩
  | b :: l, a, ha, hl => by
    have hb := hl b (by simp)
    have hab : better a b = a ∨ better a b = b := by unfold better; split <;> simp
    have hab2 : (better a b).2 < 2 ^ 31 := by rcases hab with h | h <;> rw [h] <;> assumption
    have hge : ∀ p, p = a ∨ p = b → p.1 ≤ (better a b).1 ∧ (p.1 = (better a b).1 → (better a b).2 ≤ p.2) := by
      intro p hp
      unfold better
      split
      · rename_i h
        rcases hp with rfl | rfl
        · exact ⟨le_rfl, fun _ => le_rfl⟩
        · rcases h with h | h
          · exact ⟨h.le, fun e => absurd e h.ne⟩
          · exact ⟨h.1.ge, fun _ => h.2.le⟩
      · rename_i h
        simp only [not_or, not_lt, not_and] at h
        rcases hp with rfl | rfl
        · exact ⟨h.1, h.2⟩
        · exact ⟨le_rfl, fun _ => le_rfl⟩
    obtain ⟨q, hq, hmem, hall⟩ := fold_spec l (better a b) hab2 fun p hp => hl p (by simp [hp])
    refine ⟨q, ?_, ?_, ?_⟩
    · rw [List.map_cons, List.foldl_cons, reducer_eq ha hb, hq]
    · rcases hmem with h | h
      · rcases hab with h' | h'
        · exact .inl (h.trans h')
        · exact .inr (by rw [h, h']; simp)
      · exact .inr (by simp [h])
    · have htop := hall (better a b) (by simp)
      intro p hp
      simp only [List.mem_cons] at hp
      by_cases hpl : p ∈ l
      · exact hall p (by simp [hpl])
      · have hp' : p = a ∨ p = b := by tauto
        obtain ⟨g1, g2⟩ := hge p hp'
        exact ⟨g1.trans htop.1, fun e => (htop.2 (le_antisymm htop.1 (e ▸ g1))).trans (g2 (le_antisymm g1 (e ▸ htop.1)))⟩

end Cert.ArgFold
-- ==== Proof.RefValue.lean ====
/-
  The reference's result: at every sample and row, the place that wins the race.
-/
module

public import proofs.«01_k».proof.Proof.RefDraw
public import proofs.«01_k».proof.Proof.ArgFold
public import proofs.«01_k».proof.Proof.Game
public import Idealize.ShloMosaic.PureOps.Ideal.Laws

@[expose] public section

set_option maxRecDepth 16384

noncomputable section

namespace Cert.RefRun

open Idealize.ShloMosaic Idealize.ShloMosaic.StableHlo Idealize.SL.Sem Cert.Line Cert.ReferenceIdeal
open Idealize.ShloMosaic.ValueIdx Cert.Game
open Cert.ReferenceIdeal.Facts₀ Cert.ReferenceIdeal.Facts

variable [Facts]

/-- The pattern of minus infinity is the least extended real. -/
theorem ofBits_bot : Ideal.ofBits .f32 0xFF800000#32 = (⊥ : EReal) := by
  simp [Ideal.ofBits, Ideal.ieee]

/-- The sum of a row of non-negative reals is a real no less than each of them. -/
theorem total {s t : Shape} {axes : List (Fin s.rank)} (h : s.ReducesTo axes t) (x : s.Idx → EReal)
    (hx : ∀ i, ∃ r : ℝ, 0 ≤ r ∧ x i = (r : EReal)) (j : t.Idx) :
    ∃ s : ℝ, Ideal.hostReduceAdd h x 0 j = (s : EReal) ∧ ∀ i, h.drop i = j → x i ≤ (s : EReal) := by
  choose f hf hxf using hx
  refine ⟨∑ i ∈ Finset.univ.filter (fun i => h.drop i = j), f i, ?_, fun i hi => ?_⟩
  · unfold Ideal.hostReduceAdd
    rw [zero_add, Finset.sum_congr rfl fun i _ => hxf i]
    exact (map_sum (⟨⟨(↑), EReal.coe_zero⟩, EReal.coe_add⟩ : ℝ →+ EReal) f _).symm
  · rw [hxf i, EReal.coe_le_coe_iff]
    exact Finset.single_le_sum (f := f) (fun i _ => hf i) (by simp [hi])

/-- The first largest of a row, as the program takes it: from (⊥, 0) over the row's pairs. -/
theorem argmax_row (L : S4096x32x100000.Idx → EReal) (n : Fin 4096) (b : Fin 32) :
    ∃ k, Host.argReduce (F := Ideal) (φ := .f32) (reducer_argmax_f32_i32 (F := Ideal)) L (iotaInDim S4096x32x100000 32 2)
        (constant (F := Ideal) S_ .f32 0xFF800000#32) (constantI S_ 32 0#32) reducesTo_S4096x32x100000_S4096x32_d2 h_S_ (ix2 n b)
      = ArgFold.asWord k
      ∧ ∃ hk : k.2 < 100000, ∀ w : Fin 100000, L (ix3 n b w) ≤ L (ix3 n b ⟨k.2, hk⟩)
        ∧ (w.val < k.2 → ¬ L (ix3 n b ⟨k.2, hk⟩) ≤ L (ix3 n b w)) := by
  rw [Ideal.argReduce_eq_reduce2, Host.reduce2_eq_foldl_fiber]
  have fib : ∀ i : S4096x32x100000.Idx, reducesTo_S4096x32x100000_S4096x32_d2.drop i = ix2 n b ↔ i 0 = n ∧ i 1 = b := by
    intro i
    have h0 := reducesTo_S4096x32x100000_S4096x32_d2.drop_apply_val_of_eq i 0 0 (by decide) (by decide)
    have h1 := reducesTo_S4096x32x100000_S4096x32_d2.drop_apply_val_of_eq i 1 1 (by decide) (by decide)
    constructor
    · intro h
      rw [h] at h0 h1
      exact ⟨Fin.ext h0.symm, Fin.ext h1.symm⟩
    · rintro ⟨e0, e1⟩
      funext a
      match a with
      | ⟨0, _⟩ => exact Fin.ext (h0.trans (congrArg Fin.val e0))
      | ⟨1, _⟩ => exact Fin.ext (h1.trans (congrArg Fin.val e1))
  let pr : Fin S4096x32x100000.numel → EReal × ℕ := fun q =>
    (L (S4096x32x100000.rowMajor.symm q), (S4096x32x100000.rowMajor.symm q 2).val)
  have hl : Host.argReduceFiber L (iotaInDim S4096x32x100000 32 2) reducesTo_S4096x32x100000_S4096x32_d2 (ix2 n b)
      = (((List.finRange S4096x32x100000.numel).filter fun q =>
          reducesTo_S4096x32x100000_S4096x32_d2.drop (S4096x32x100000.rowMajor.symm q) = ix2 n b).map pr).map ArgFold.asWord := by
    rw [List.map_map]; rfl
  have hmem : ∀ p, p ∈ (((List.finRange S4096x32x100000.numel).filter fun q =>
      reducesTo_S4096x32x100000_S4096x32_d2.drop (S4096x32x100000.rowMajor.symm q) = ix2 n b).map pr)
        ↔ ∃ w : Fin 100000, p = (L (ix3 n b w), w.val) := by
    intro p
    simp only [List.mem_map, List.mem_filter, List.mem_finRange, true_and, decide_eq_true_eq, fib]
    constructor
    · rintro ⟨q, ⟨e0, e1⟩, rfl⟩
      refine ⟨S4096x32x100000.rowMajor.symm q 2, ?_⟩
      have : ix3 n b (S4096x32x100000.rowMajor.symm q 2) = S4096x32x100000.rowMajor.symm q := by
        funext a
        match a with
        | ⟨0, _⟩ => exact e0.symm
        | ⟨1, _⟩ => exact e1.symm
        | ⟨2, _⟩ => rfl
      exact Prod.ext (congrArg L this.symm) rfl
    · rintro ⟨w, rfl⟩
      refine ⟨S4096x32x100000.rowMajor (ix3 n b w), ?_, ?_⟩
      · rw [Equiv.symm_apply_apply]; exact ⟨rfl, rfl⟩
      · show (_, _) = _
        rw [Equiv.symm_apply_apply]
  rw [hl]
  have start : ((constant (F := Ideal) S_ .f32 0xFF800000#32) (Shape.Idx.first h_S_), (constantI S_ 32 0#32) (Shape.Idx.first h_S_))
      = ArgFold.asWord (⊥, 0) := Prod.ext ofBits_bot rfl
  rw [start]
  obtain ⟨q, hq, hqm, hall⟩ := ArgFold.fold_spec _ (⊥, 0) (by norm_num) fun p hp => by
    obtain ⟨w, rfl⟩ := (hmem p).1 hp
    exact w.isLt.trans (by norm_num)
  refine ⟨q, hq, ?_⟩
  have hrow : ∀ w : Fin 100000, L (ix3 n b w) ≤ q.1 ∧ (L (ix3 n b w) = q.1 → q.2 ≤ w.val) := fun w =>
    hall _ (List.mem_cons_of_mem _ ((hmem _).2 ⟨w, rfl⟩))
  have hat : ∃ hk : q.2 < 100000, L (ix3 n b ⟨q.2, hk⟩) = q.1 := by
    rcases hqm with h | h
    · subst h
      exact ⟨by norm_num, le_bot_iff.1 (hrow _).1⟩
    · obtain ⟨w, rfl⟩ := (hmem q).1 h
      exact ⟨w.isLt, rfl⟩
  obtain ⟨hk, e⟩ := hat
  refine ⟨hk, fun w => ⟨e ▸ (hrow w).1, fun hlt hle => ?_⟩⟩
  rw [e] at hle
  exact absurd ((hrow w).2 (le_antisymm (hrow w).1 hle)) (not_le.2 hlt)

/-- THE REFERENCE'S RESULT: with non-negative finite weights, entry (n, b) is the place that wins. -/
theorem result {W : Vals} (h : Eqs W refOps) (hP : Proper (rd W r_arg0)) (n : Fin 4096) (b : Fin 32) :
    ∃ k, Wins (rd W r_arg0) n.val b k ∧ rd W main_call1.v1_1 (ix2 n b) = BitVec.ofNat 32 k := by
  unfold refOps at h
  rw [eqs_append, eqs_append, eqs_append, eqs_append, eqs_append] at h
  obtain ⟨⟨⟨⟨⟨hl, hc⟩, ht⟩, hf⟩, hp⟩, ha⟩ := h
  unfold logitOps at hl
  unfold perturbOps at hp
  unfold argmaxOps at ha
  simp only [eqs_cons, eqs_nil, and_true, sat_nullary, sat_unary, sat_binary, sat_quaternary] at hl hp ha
  obtain ⟨l1, l2, l3, l4, l5, l6, l7, l8, l9, l10, l11, l12, l13, l14, l15, l16, l17, l18⟩ := hl
  obtain ⟨p1, p2, p3, p4, p5, p6, p7, p8, p9, p10⟩ := hp
  obtain ⟨a1, a2, a3, a4, a5⟩ := ha
  have k0 : rd W r_v11 (ix1 0) = 0#32 := by
    rw [l16]
    refine (concatenate_pair_apply_left (t := S2) (s₁ := S1) (s₂ := S1) 0 _ _ concatenates_S1_S1_S2_d0 (ix1 0) rfl (ix1 0) ?_).trans ?_
    · intro a; fin_cases a; rfl
    · rw [l11, l10, l9, l8, l7]; rfl
  have k1 : rd W r_v11 (ix1 1) = 42#32 := by
    rw [l16]
    refine (concatenate_pair_apply_right (t := S2) (s₁ := S1) (s₂ := S1) 0 _ _ concatenates_S1_S1_S2_d0 (ix1 1) rfl rfl (ix1 0) ?_ rfl).trans ?_
    · intro a ha; exact absurd (Fin.ext (Nat.lt_one_iff.1 a.isLt)) ha
    · rw [l15, l14, l13, l12, l7]; rfl
  have hu := fun j => uniform_eqs hc ht hf k0 k1 (by rw [l17]; exact Ideal.ofBits_zero_f32)
    (by rw [l18]; exact Ideal.ofBits_one_f32) j
  have tin : ∀ x : EReal, max (max 0 x) (Ideal.ofBits .f32 8388608#32) = max x (Ideal.ofBits .f32 8388608#32) := by
    obtain ⟨r, hr, -, e⟩ := Rng.ofBits_tiny
    intro x
    rw [e, max_comm 0 x, max_assoc, max_eq_right (a := (0 : EReal)) (by exact_mod_cast hr.le)]
  have noise : ∀ j, rd W r_v18 j = -Ideal.log (Rng.expo (Rng.wordAt (pos j))) := by
    intro j
    rw [p7, p6, p5, p4, p3, p2, p1]
    show -Ideal.log (-Ideal.log (max (rd W r_v12 j) _)) = _
    unfold Rng.expo
    rw [← tin]
    exact congrArg (fun x : EReal => -Ideal.log (-Ideal.log (max x (Ideal.ofBits .f32 8388608#32)))) (hu j)
  have sums : ∀ b : Fin 32, ∃ s : ℝ, rd W r_v0 (ix1 b) = (s : EReal) ∧ ∀ v : Fin 100000, rd W r_arg0 (ix2 b v) ≤ (s : EReal) := by
    intro b
    obtain ⟨s, e, hs⟩ := total reducesTo_S32x100000_S32_d1 (rd W r_arg0) hP (ix1 b)
    refine ⟨s, ?_, fun v => hs _ ?_⟩
    · rw [l2, ← e, l1]
      show Ideal.hostReduceAdd _ _ (Ideal.ofBits .f32 0#32) _ = _
      rw [Ideal.ofBits_zero_f32]
    · funext a
      match a with
      | ⟨0, _⟩ => exact Fin.ext (reducesTo_S32x100000_S32_d1.drop_apply_val_of_eq (ix2 b v) 0 0 (by decide) (by decide))
  have share : ∀ (b : Fin 32) (v : Fin 100000), rd W r_v4 (ix2 b v) = Ideal.log (Ideal.div (rd W r_arg0 (ix2 b v)) (rd W r_v0 (ix1 b))) := by
    intro b v
    rw [l6, l5]
    show Ideal.log (Ideal.div _ (rd W r_v2 (ix2 b v))) = _
    refine congrArg (fun x => Ideal.log (Ideal.div _ x)) ?_
    rw [l4, l3]
    exact (broadcastInDim_apply _ _ _ (ix2 b v) (ix2 b 0) (by intro a; fin_cases a <;> rfl)).trans
      (broadcastInDim_apply _ _ _ (ix2 b 0) (ix1 b) (by intro a; fin_cases a; rfl))
  have entry : ∀ (v : Fin 100000), rd W r_v21 (ix3 n b v)
      = Race.logit (draw n.val b.val v.val) (weight (rd W r_arg0) b v.val) (rd W r_v0 (ix1 b)) := by
    intro v
    rw [p10]
    show rd W r_v18 (ix3 n b v) + rd W r_v20 (ix3 n b v) = _
    rw [noise, p9, p8]
    have e : broadcastInDim S4096x32x100000 ![0, 1, 2] bcast_S1x32x100000_S4096x32x100000_0_1_2
        (broadcastInDim S1x32x100000 ![1, 2] bcast_S32x100000_S1x32x100000_1_2 (rd W r_v4)) (ix3 n b v) = rd W r_v4 (ix2 b v) :=
      (broadcastInDim_apply _ _ _ (ix3 n b v) (ix3 0 b v) (by intro a; fin_cases a <;> rfl)).trans
        (broadcastInDim_apply _ _ _ (ix3 0 b v) (ix2 b v) (by intro a; fin_cases a <;> rfl))
    rw [e, share]
    unfold Race.logit weight
    rw [dif_pos v.isLt]
    rfl
  obtain ⟨k, hk, hlt, hfirst⟩ := argmax_row (rd W r_v21) n b
  refine ⟨k.2, wins_of_logit hP (S := rd W r_v0 (ix1 b)) ?_ ⟨hlt, fun w hw => ?_⟩, ?_⟩
  · obtain ⟨s, e, hs⟩ := sums b
    refine ⟨s, e, fun v hv => ?_⟩
    unfold weight
    rw [dif_pos hv, e]
    exact hs _
  · have := hfirst ⟨w, hw⟩
    rw [entry, entry] at this
    exact this
  · rw [a5, a3, a2, a1]
    exact congrArg Prod.snd hk

end Cert.RefRun
-- ==== Proof.Agree.lean ====
/-
  The kernel and the reference draw the same index everywhere.
-/
module

public import proofs.«01_k».proof.Defs
public import proofs.«01_k».proof.Proof.KernelMem
public import proofs.«01_k».proof.Proof.KernelRun
public import proofs.«01_k».proof.Proof.RefEnd
public import proofs.«01_k».proof.Proof.RefValue
public import proofs.«01_k».proof.Proof.Gen.ReferenceIdeal

@[expose] public section

set_option maxRecDepth 16384

noncomputable section

namespace Cert.Agree

open Idealize.ShloMosaic Idealize.SL.Sem Cert.Race Cert.Game
open Idealize.ShloMosaic.ValueIdx (ix2)

/-- The one shape fact the precondition states. -/
theorem preFacts : Cert.Pre_nonneg_finite.Facts := ⟨by decide⟩

/-- Weights that satisfy the precondition are non-negative real numbers. -/
theorem proper [Cert.Pre_nonneg_finite.Facts] (P : Weights) (h : Cert.Pre_nonneg_finite.fn (F := Ideal) P = fun _ => 1#1) : Proper P := by
  intro j
  have hj : (Ideal.cmp .oge (P j) (Ideal.ofBits .f32 0x00000000#32)) &&& (Ideal.cmp .olt (P j) (Ideal.ofBits .f32 0x7F800000#32)) = 1#1 :=
    congrFun h j
  rw [Ideal.ofBits_zero_f32, KernelValue.ofBits_top] at hj
  unfold Ideal.cmp at hj
  have hb : (0 : EReal) ≤ P j ∧ P j < ⊤ := by
    by_cases h0 : (0 : EReal) ≤ P j <;> by_cases h1 : P j < ⊤ <;> simp [h0, h1] at hj ⊢
  refine ⟨(P j).toReal, EReal.toReal_nonneg hb.1, (EReal.coe_toReal hb.2.ne ?_).symm⟩
  intro e
  rw [e] at hb
  exact absurd hb.1 (by simp)

/-- Both programs leave the same indices in their result buffers. -/
theorem same {m : (ℓ : Loc Cert.KernelIdeal.nD Cert.KernelIdeal.τ Cert.KernelIdeal.sig) → Buf (Elt Ideal) ℓ} {ρ : Dev Cert.KernelIdeal.nD → PrngReg}
    {m' : (ℓ : Loc Cert.ReferenceIdeal.nD Cert.ReferenceIdeal.τ Cert.ReferenceIdeal.sig) → Buf (Elt Ideal) ℓ} (c : Dev Cert.KernelIdeal.nD)
    (hP : Proper (KernelValue.given m c))
    (ha : m' ((c.tc : Thread Cert.ReferenceIdeal.nD Cert.ReferenceIdeal.τ).loc Cert.ReferenceIdeal.main_arg0) = KernelValue.given m c) :
    (RefRun.fin m' c (Proc.devRef .tc Cert.ReferenceIdeal.main_v22) : Cert.KernelIdeal.S4096x32.Idx → BitVec 32)
      = Cert.KernelIdeal.Gen.W6 (F := Ideal) m ρ c (Proc.devRef .tc Cert.KernelIdeal.main_v5) := by
  have e : Line.rd (RefRun.fin m' c) RefRun.r_arg0 = KernelValue.given m c := (RefRun.fin_arg0 m' c).trans ha
  have hR : Proper (Line.rd (RefRun.fin m' c) RefRun.r_arg0) := by rw [e]; exact hP
  have hres := RefRun.result (RefRun.fin_eqs m' c) hR
  rw [e] at hres
  funext j
  obtain ⟨n, b, rfl⟩ : ∃ (n : Fin 4096) (b : Fin 32), j = ix2 n b := ⟨j 0, j 1, by funext a; fin_cases a <;> rfl⟩
  obtain ⟨k, hk, ek⟩ := hres n b
  obtain ⟨k', hk', ek'⟩ := KernelValue.result m ρ c n b
  rw [First.unique hk hk'] at ek
  exact ek.trans ek'.symm

/-- THE AGREEMENT: on non-negative finite weights the kernel and the reference end with the same indices. -/
theorem algebraic : Cert.algebraic_KernelIdeal_ReferenceIdeal_pre_nonneg_finite (hPre_nonneg_finite := preFacts) := by
  intro m g m' g' hpre hargs
  refine ⟨fun c => Cert.KernelIdeal.Gen.W6 (F := Ideal) m g c (Proc.devRef .tc Cert.KernelIdeal.main_v5), KernelRun.run m g, ?_⟩
  refine (θ_run _ _ _).mono (fun r h c => ⟨((h.1 c).1).trans ?_, (h.1 c).2⟩) (RefRun.run m' g')
  exact same c (@proper preFacts _ (hpre c)) (hargs c)

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefEnd
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference ends with its argument as launched and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun _ h => ⟨fun c => (h.1 c).2, h.2⟩) (Cert.RefRun.run m g)

/-- Everything certified. -/
theorem claim : Cert.Claim :=
  ⟨Cert.Kernel.Gen.facts, Cert.KernelIdeal.Gen.facts, Cert.ReferenceIdeal.Gen.facts, Cert.Agree.preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    Cert.Agree.algebraic⟩

end Cert.Proof

end
